-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_clouds [hPre_drawn_clouds : Cert.Pre_drawn_clouds.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.1 = (fun _ => 1#1)
    ∧ (Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_clouds [hPre_drawn_clouds : Cert.Pre_drawn_clouds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.1 = (fun _ => 1#1)
    ∧ (Cert.Pre_drawn_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_drawn_clouds [hKernelIdeal : Cert.KernelIdeal.Facts] [hPre_drawn_clouds : Cert.Pre_drawn_clouds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_clouds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_drawn_clouds [hReferenceIdeal : Cert.ReferenceIdeal.Facts] [hPre_drawn_clouds : Cert.Pre_drawn_clouds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_clouds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_drawn_clouds [hKernelIdeal : Cert.KernelIdeal.Facts] [hReferenceIdeal : Cert.ReferenceIdeal.Facts] [hPre_drawn_clouds : Cert.Pre_drawn_clouds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_clouds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_drawn_clouds : Cert.Pre_drawn_clouds.Facts),
    quiescent_Kernel (hKernel := hKernel)
    ∧ quiescent_KernelIdeal (hKernelIdeal := hKernelIdeal)
    ∧ quiescent_KernelIdeal_pre_drawn_clouds (hKernelIdeal := hKernelIdeal) (hPre_drawn_clouds := hPre_drawn_clouds)
    ∧ quiescent_ReferenceIdeal (hReferenceIdeal := hReferenceIdeal)
    ∧ quiescent_ReferenceIdeal_pre_drawn_clouds (hReferenceIdeal := hReferenceIdeal) (hPre_drawn_clouds := hPre_drawn_clouds)
    ∧ preserves_Kernel_KernelIdeal
    ∧ algebraic_KernelIdeal_ReferenceIdeal_pre_drawn_clouds (hKernelIdeal := hKernelIdeal) (hReferenceIdeal := hReferenceIdeal) (hPre_drawn_clouds := hPre_drawn_clouds)
-- ==== Pre_drawn_clouds.lean ====
abbrev S16384x10 : Shape := ⟨2, ![16384, 10]⟩
abbrev S16384x3 : Shape := ⟨2, ![16384, 3]⟩
abbrev S16384 : Shape := ⟨1, ![16384]⟩
abbrev S4096x128 : Shape := ⟨2, ![4096, 128]⟩
abbrev S4096x3 : Shape := ⟨2, ![4096, 3]⟩
abbrev S4096 : Shape := ⟨1, ![4096]⟩
abbrev S1024x256 : Shape := ⟨2, ![1024, 256]⟩
abbrev S1024x3 : Shape := ⟨2, ![1024, 3]⟩
abbrev S1024 : Shape := ⟨1, ![1024]⟩
abbrev S256x1024 : Shape := ⟨2, ![256, 1024]⟩
abbrev S256x3 : Shape := ⟨2, ![256, 3]⟩
abbrev S256 : Shape := ⟨1, ![256]⟩
abbrev S1280x256 : Shape := ⟨2, ![1280, 256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S138x128 : Shape := ⟨2, ![138, 128]⟩
abbrev S128x128 : Shape := ⟨2, ![128, 128]⟩
abbrev S128x3 : Shape := ⟨2, ![128, 3]⟩
abbrev S3 : Shape := ⟨1, ![3]⟩
abbrev S16x1024 : Shape := ⟨2, ![16, 1024]⟩
abbrev S16x256 : Shape := ⟨2, ![16, 256]⟩
abbrev S16x64 : Shape := ⟨2, ![16, 64]⟩
abbrev S16x16 : Shape := ⟨2, ![16, 16]⟩
abbrev S_ : Shape := ⟨0, ![]⟩
abbrev S1024x1x3 : Shape := ⟨3, ![1024, 1, 3]⟩
abbrev S1x256x3 : Shape := ⟨3, ![1, 256, 3]⟩
abbrev S1024x256x3 : Shape := ⟨3, ![1024, 256, 3]⟩
abbrev S1024x1 : Shape := ⟨2, ![1024, 1]⟩
abbrev S1x256 : Shape := ⟨2, ![1, 256]⟩
abbrev S1024x2 : Shape := ⟨2, ![1024, 2]⟩
abbrev S4096x1x3 : Shape := ⟨3, ![4096, 1, 3]⟩
abbrev S1x1024x3 : Shape := ⟨3, ![1, 1024, 3]⟩
abbrev S4096x1024x3 : Shape := ⟨3, ![4096, 1024, 3]⟩
abbrev S4096x1024 : Shape := ⟨2, ![4096, 1024]⟩
abbrev S4096x1 : Shape := ⟨2, ![4096, 1]⟩
abbrev S1x1024 : Shape := ⟨2, ![1, 1024]⟩
abbrev S4096x4 : Shape := ⟨2, ![4096, 4]⟩
abbrev S16384x1x3 : Shape := ⟨3, ![16384, 1, 3]⟩
abbrev S1x4096x3 : Shape := ⟨3, ![1, 4096, 3]⟩
abbrev S16384x4096x3 : Shape := ⟨3, ![16384, 4096, 3]⟩
abbrev S16384x4096 : Shape := ⟨2, ![16384, 4096]⟩
abbrev S16384x1 : Shape := ⟨2, ![16384, 1]⟩
abbrev S1x4096 : Shape := ⟨2, ![1, 4096]⟩
abbrev S16384x4 : Shape := ⟨2, ![16384, 4]⟩

class Facts : Prop where
  shapeCasts_S16384_S16x1024 : S16384.ShapeCasts S16x1024
  shapeCasts_S4096_S16x256 : S4096.ShapeCasts S16x256
  shapeCasts_S1024_S16x64 : S1024.ShapeCasts S16x64
  shapeCasts_S256_S16x16 : S256.ShapeCasts S16x16
  bcast_S_S4096x3 : S_.BroadcastsInDim S4096x3 (![] : Fin 0 → Fin S4096x3.rank)
  bcast_S_S1024x3 : S_.BroadcastsInDim S1024x3 (![] : Fin 0 → Fin S1024x3.rank)
  bcast_S_S256x3 : S_.BroadcastsInDim S256x3 (![] : Fin 0 → Fin S256x3.rank)
  bcast_S1024x3_S1024x1x3_0_2 : S1024x3.BroadcastsInDim S1024x1x3 (![0, 2] : Fin 2 → Fin S1024x1x3.rank)
  bcast_S256x3_S1x256x3_1_2 : S256x3.BroadcastsInDim S1x256x3 (![1, 2] : Fin 2 → Fin S1x256x3.rank)
  bcast_S1024x1x3_S1024x256x3_0_1_2 : S1024x1x3.BroadcastsInDim S1024x256x3 (![0, 1, 2] : Fin 3 → Fin S1024x256x3.rank)
  bcast_S1x256x3_S1024x256x3_0_1_2 : S1x256x3.BroadcastsInDim S1024x256x3 (![0, 1, 2] : Fin 3 → Fin S1024x256x3.rank)
  reducesTo_S1024x256x3_S1024x256_d2 : S1024x256x3.ReducesTo [2] S1024x256
  h_S_ : 0 < S_.numel
  bcast_S1024_S1024x1_0 : S1024.BroadcastsInDim S1024x1 (![0] : Fin 1 → Fin S1024x1.rank)
  bcast_S256_S1x256_1 : S256.BroadcastsInDim S1x256 (![1] : Fin 1 → Fin S1x256.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  sliceFits_S1024x256_S1024x2 : S1024x256.Slices (fun _ => 0) S1024x2
  slices_S1024x2_S1024x1_0_0 : S1024x2.Slices ![0, 0] S1024x1
  slices_S1024x2_S1024x1_0_1 : S1024x2.Slices ![0, 1] S1024x1
  bcast_S4096x3_S4096x1x3_0_2 : S4096x3.BroadcastsInDim S4096x1x3 (![0, 2] : Fin 2 → Fin S4096x1x3.rank)
  bcast_S1024x3_S1x1024x3_1_2 : S1024x3.BroadcastsInDim S1x1024x3 (![1, 2] : Fin 2 → Fin S1x1024x3.rank)
  bcast_S4096x1x3_S4096x1024x3_0_1_2 : S4096x1x3.BroadcastsInDim S4096x1024x3 (![0, 1, 2] : Fin 3 → Fin S4096x1024x3.rank)
  bcast_S1x1024x3_S4096x1024x3_0_1_2 : S1x1024x3.BroadcastsInDim S4096x1024x3 (![0, 1, 2] : Fin 3 → Fin S4096x1024x3.rank)
  reducesTo_S4096x1024x3_S4096x1024_d2 : S4096x1024x3.ReducesTo [2] S4096x1024
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  sliceFits_S4096x1024_S4096x4 : S4096x1024.Slices (fun _ => 0) S4096x4
  slices_S4096x4_S4096x3_0_0 : S4096x4.Slices ![0, 0] S4096x3
  slices_S4096x4_S4096x3_0_1 : S4096x4.Slices ![0, 1] S4096x3
  bcast_S16384x3_S16384x1x3_0_2 : S16384x3.BroadcastsInDim S16384x1x3 (![0, 2] : Fin 2 → Fin S16384x1x3.rank)
  bcast_S4096x3_S1x4096x3_1_2 : S4096x3.BroadcastsInDim S1x4096x3 (![1, 2] : Fin 2 → Fin S1x4096x3.rank)
  bcast_S16384x1x3_S16384x4096x3_0_1_2 : S16384x1x3.BroadcastsInDim S16384x4096x3 (![0, 1, 2] : Fin 3 → Fin S16384x4096x3.rank)
  bcast_S1x4096x3_S16384x4096x3_0_1_2 : S1x4096x3.BroadcastsInDim S16384x4096x3 (![0, 1, 2] : Fin 3 → Fin S16384x4096x3.rank)
  reducesTo_S16384x4096x3_S16384x4096_d2 : S16384x4096x3.ReducesTo [2] S16384x4096
  bcast_S16384_S16384x1_0 : S16384.BroadcastsInDim S16384x1 (![0] : Fin 1 → Fin S16384x1.rank)
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  sliceFits_S16384x4096_S16384x4 : S16384x4096.Slices (fun _ => 0) S16384x4
  slices_S16384x4_S16384x3_0_0 : S16384x4.Slices ![0, 0] S16384x3
  slices_S16384x4_S16384x3_0_1 : S16384x4.Slices ![0, 1] S16384x3

variable [Facts]

def fn_where {F : FTy → Type} [FloatOps F] (arg0 : IVec S1024x256 1) (arg1 : FVec F S_ .f32) (arg2 : FVec F S1024x256 .f32) : FVec F S1024x256 .f32 :=
  let v0 : FVec F S_ .f32 := id arg1
  let v1 : FVec F S1024x256 .f32 := broadcastInDim S1024x256 ![] bcast_S_S1024x256 v0
  let v2 : FVec F S1024x256 .f32 := select arg0 v1 arg2
  v2

def fn_where_0 {F : FTy → Type} [FloatOps F] (arg0 : IVec S4096x1024 1) (arg1 : FVec F S_ .f32) (arg2 : FVec F S4096x1024 .f32) : FVec F S4096x1024 .f32 :=
  let v0 : FVec F S_ .f32 := id arg1
  let v1 : FVec F S4096x1024 .f32 := broadcastInDim S4096x1024 ![] bcast_S_S4096x1024 v0
  let v2 : FVec F S4096x1024 .f32 := select arg0 v1 arg2
  v2

def fn_where_1 {F : FTy → Type} [FloatOps F] (arg0 : IVec S16384x4096 1) (arg1 : FVec F S_ .f32) (arg2 : FVec F S16384x4096 .f32) : FVec F S16384x4096 .f32 :=
  let v0 : FVec F S_ .f32 := id arg1
  let v1 : FVec F S16384x4096 .f32 := broadcastInDim S16384x4096 ![] bcast_S_S16384x4096 v0
  let v2 : FVec F S16384x4096 .f32 := select arg0 v1 arg2
  v2

def fn_part3 {F : FTy → Type} [FloatOps F] (main_arg2 : IVec S16384 32) (main_arg5 : IVec S4096 32) (main_v2 : IVec S16x1024 1) (main_v5 : IVec S16x256 1) (main_v8 : IVec S16x64 1) (main_v11 : IVec S16x16 1) (main_v14 : IVec S4096x3 1) (main_v17 : IVec S1024x3 1) (main_v20 : IVec S256x3 1) (main_v37 : IVec S1024x1 1) (main_v54 : IVec S4096x3 1) (main_v60 : FVec F S16384x4096x3 .f32) : IVec S16x1024 1 × IVec S16x256 1 × IVec S16x64 1 × IVec S16x16 1 × IVec S4096x3 1 × IVec S1024x3 1 × IVec S256x3 1 × IVec S1024x1 1 × IVec S4096x3 1 × IVec S16384x3 1 :=
  let main_cst_8 : FVec F S_ .f32 := constant S_ .f32 0x00000000#32
  let main_v61 : FVec F S16384x4096 .f32 := (fun x v => Host.reduceAdd x v reducesTo_S16384x4096x3_S16384x4096_d2 h_S_) main_v60 main_cst_8
  let main_v62 : IVec S16384x1 32 := broadcastInDim S16384x1 ![0] bcast_S16384_S16384x1_0 main_arg2
  let main_v63 : IVec S1x4096 32 := broadcastInDim S1x4096 ![1] bcast_S4096_S1x4096_1 main_arg5
  let main_v64 : IVec S16384x4096 32 := broadcastInDim S16384x4096 ![0, 1] bcast_S16384x1_S16384x4096_0_1 main_v62
  let main_v65 : IVec S16384x4096 32 := broadcastInDim S16384x4096 ![0, 1] bcast_S1x4096_S16384x4096_0_1 main_v63
  let main_v66 : IVec S16384x4096 1 := cmpi .ne main_v64 main_v65
  let main_cst_9 : FVec F S_ .f32 := constant S_ .f32 0x501502F9#32
  let main_v67 : FVec F S16384x4096 .f32 := fn_where_1 (F := F) main_v66 main_cst_9 main_v61
  let main_v68 : FVec F S16384x4096 .f32 := Host.negf main_v67
  let main_values_10 : FVec F S16384x4 .f32 := (fun x => (Host.topK S16384x4 1 (FloatOps.cmpfTotal .gt) x sliceFits_S16384x4096_S16384x4).1) main_v68
  let main_indices_11 : IVec S16384x4 32 := (fun x => (Host.topK S16384x4 1 (FloatOps.cmpfTotal .gt) x sliceFits_S16384x4096_S16384x4).2) main_v68
  let main_v69 : FVec F S16384x3 .f32 := (extractStridedSlice S16384x3 ![0, 0] · slices_S16384x4_S16384x3_0_0) main_values_10
  let main_v70 : FVec F S16384x3 .f32 := (extractStridedSlice S16384x3 ![0, 1] · slices_S16384x4_S16384x3_0_1) main_values_10
  let main_v71 : IVec S16384x3 1 := cmpf .ogt main_v69 main_v70
  (main_v2, main_v5, main_v8, main_v11, main_v14, main_v17, main_v20, main_v37, main_v54, main_v71)

def fn_part2 {F : FTy → Type} [FloatOps F] (main_arg1 : FVec F S16384x3 .f32) (main_arg2 : IVec S16384 32) (main_arg4 : FVec F S4096x3 .f32) (main_arg5 : IVec S4096 32) (main_arg8 : IVec S1024 32) (main_v2 : IVec S16x1024 1) (main_v5 : IVec S16x256 1) (main_v8 : IVec S16x64 1) (main_v11 : IVec S16x16 1) (main_v14 : IVec S4096x3 1) (main_v17 : IVec S1024x3 1) (main_v20 : IVec S256x3 1) (main_v37 : IVec S1024x1 1) (main_v39 : FVec F S1x1024x3 .f32) (main_v40 : FVec F S4096x1024x3 .f32) : IVec S16x1024 1 × IVec S16x256 1 × IVec S16x64 1 × IVec S16x16 1 × IVec S4096x3 1 × IVec S1024x3 1 × IVec S256x3 1 × IVec S1024x1 1 × IVec S4096x3 1 × IVec S16384x3 1 :=
  let main_v41 : FVec F S4096x1024x3 .f32 := broadcastInDim S4096x1024x3 ![0, 1, 2] bcast_S1x1024x3_S4096x1024x3_0_1_2 main_v39
  let main_v42 : FVec F S4096x1024x3 .f32 := subf main_v40 main_v41
  let main_v43 : FVec F S4096x1024x3 .f32 := mulf main_v42 main_v42
  let main_cst_4 : FVec F S_ .f32 := constant S_ .f32 0x00000000#32
  let main_v44 : FVec F S4096x1024 .f32 := (fun x v => Host.reduceAdd x v reducesTo_S4096x1024x3_S4096x1024_d2 h_S_) main_v43 main_cst_4
  let main_v45 : IVec S4096x1 32 := broadcastInDim S4096x1 ![0] bcast_S4096_S4096x1_0 main_arg5
  let main_v46 : IVec S1x1024 32 := broadcastInDim S1x1024 ![1] bcast_S1024_S1x1024_1 main_arg8
  let main_v47 : IVec S4096x1024 32 := broadcastInDim S4096x1024 ![0, 1] bcast_S4096x1_S4096x1024_0_1 main_v45
  let main_v48 : IVec S4096x1024 32 := broadcastInDim S4096x1024 ![0, 1] bcast_S1x1024_S4096x1024_0_1 main_v46
  let main_v49 : IVec S4096x1024 1 := cmpi .ne main_v47 main_v48
  let main_cst_5 : FVec F S_ .f32 := constant S_ .f32 0x501502F9#32
  let main_v50 : FVec F S4096x1024 .f32 := fn_where_0 (F := F) main_v49 main_cst_5 main_v44
  let main_v51 : FVec F S4096x1024 .f32 := Host.negf main_v50
  let main_values_6 : FVec F S4096x4 .f32 := (fun x => (Host.topK S4096x4 1 (FloatOps.cmpfTotal .gt) x sliceFits_S4096x1024_S4096x4).1) main_v51
  let main_indices_7 : IVec S4096x4 32 := (fun x => (Host.topK S4096x4 1 (FloatOps.cmpfTotal .gt) x sliceFits_S4096x1024_S4096x4).2) main_v51
  let main_v52 : FVec F S4096x3 .f32 := (extractStridedSlice S4096x3 ![0, 0] · slices_S4096x4_S4096x3_0_0) main_values_6
  let main_v53 : FVec F S4096x3 .f32 := (extractStridedSlice S4096x3 ![0, 1] · slices_S4096x4_S4096x3_0_1) main_values_6
  let main_v54 : IVec S4096x3 1 := cmpf .ogt main_v52 main_v53
  let main_v55 : FVec F S16384x1x3 .f32 := broadcastInDim S16384x1x3 ![0, 2] bcast_S16384x3_S16384x1x3_0_2 main_arg1
  let main_v56 : FVec F S1x4096x3 .f32 := broadcastInDim S1x4096x3 ![1, 2] bcast_S4096x3_S1x4096x3_1_2 main_arg4
  let main_v57 : FVec F S16384x4096x3 .f32 := broadcastInDim S16384x4096x3 ![0, 1, 2] bcast_S16384x1x3_S16384x4096x3_0_1_2 main_v55
  let main_v58 : FVec F S16384x4096x3 .f32 := broadcastInDim S16384x4096x3 ![0, 1, 2] bcast_S1x4096x3_S16384x4096x3_0_1_2 main_v56
  let main_v59 : FVec F S16384x4096x3 .f32 := subf main_v57 main_v58
  let main_v60 : FVec F S16384x4096x3 .f32 := mulf main_v59 main_v59
  fn_part3 (F := F) main_arg2 main_arg5 main_v2 main_v5 main_v8 main_v11 main_v14 main_v17 main_v20 main_v37 main_v54 main_v60

def fn_part1 {F : FTy → Type} [FloatOps F] (main_arg1 : FVec F S16384x3 .f32) (main_arg2 : IVec S16384 32) (main_arg4 : FVec F S4096x3 .f32) (main_arg5 : IVec S4096 32) (main_arg7 : FVec F S1024x3 .f32) (main_arg8 : IVec S1024 32) (main_arg10 : FVec F S256x3 .f32) (main_arg11 : IVec S256 32) (main_v2 : IVec S16x1024 1) (main_v5 : IVec S16x256 1) (main_v8 : IVec S16x64 1) (main_v11 : IVec S16x16 1) (main_v14 : IVec S4096x3 1) (main_v17 : IVec S1024x3 1) (main_v20 : IVec S256x3 1) : IVec S16x1024 1 × IVec S16x256 1 × IVec S16x64 1 × IVec S16x16 1 × IVec S4096x3 1 × IVec S1024x3 1 × IVec S256x3 1 × IVec S1024x1 1 × IVec S4096x3 1 × IVec S16384x3 1 :=
  let main_v21 : FVec F S1024x1x3 .f32 := broadcastInDim S1024x1x3 ![0, 2] bcast_S1024x3_S1024x1x3_0_2 main_arg7
  let main_v22 : FVec F S1x256x3 .f32 := broadcastInDim S1x256x3 ![1, 2] bcast_S256x3_S1x256x3_1_2 main_arg10
  let main_v23 : FVec F S1024x256x3 .f32 := broadcastInDim S1024x256x3 ![0, 1, 2] bcast_S1024x1x3_S1024x256x3_0_1_2 main_v21
  let main_v24 : FVec F S1024x256x3 .f32 := broadcastInDim S1024x256x3 ![0, 1, 2] bcast_S1x256x3_S1024x256x3_0_1_2 main_v22
  let main_v25 : FVec F S1024x256x3 .f32 := subf main_v23 main_v24
  let main_v26 : FVec F S1024x256x3 .f32 := mulf main_v25 main_v25
  let main_cst_2 : FVec F S_ .f32 := constant S_ .f32 0x00000000#32
  let main_v27 : FVec F S1024x256 .f32 := (fun x v => Host.reduceAdd x v reducesTo_S1024x256x3_S1024x256_d2 h_S_) main_v26 main_cst_2
  let main_v28 : IVec S1024x1 32 := broadcastInDim S1024x1 ![0] bcast_S1024_S1024x1_0 main_arg8
  let main_v29 : IVec S1x256 32 := broadcastInDim S1x256 ![1] bcast_S256_S1x256_1 main_arg11
  let main_v30 : IVec S1024x256 32 := broadcastInDim S1024x256 ![0, 1] bcast_S1024x1_S1024x256_0_1 main_v28
  let main_v31 : IVec S1024x256 32 := broadcastInDim S1024x256 ![0, 1] bcast_S1x256_S1024x256_0_1 main_v29
  let main_v32 : IVec S1024x256 1 := cmpi .ne main_v30 main_v31
  let main_cst_3 : FVec F S_ .f32 := constant S_ .f32 0x501502F9#32
  let main_v33 : FVec F S1024x256 .f32 := fn_where (F := F) main_v32 main_cst_3 main_v27
  let main_v34 : FVec F S1024x256 .f32 := Host.negf main_v33
  let main_values : FVec F S1024x2 .f32 := (fun x => (Host.topK S1024x2 1 (FloatOps.cmpfTotal .gt) x sliceFits_S1024x256_S1024x2).1) main_v34
  let main_indices : IVec S1024x2 32 := (fun x => (Host.topK S1024x2 1 (FloatOps.cmpfTotal .gt) x sliceFits_S1024x256_S1024x2).2) main_v34
  let main_v35 : FVec F S1024x1 .f32 := (extractStridedSlice S1024x1 ![0, 0] · slices_S1024x2_S1024x1_0_0) main_values
  let main_v36 : FVec F S1024x1 .f32 := (extractStridedSlice S1024x1 ![0, 1] · slices_S1024x2_S1024x1_0_1) main_values
  let main_v37 : IVec S1024x1 1 := cmpf .ogt main_v35 main_v36
  let main_v38 : FVec F S4096x1x3 .f32 := broadcastInDim S4096x1x3 ![0, 2] bcast_S4096x3_S4096x1x3_0_2 main_arg4
  let main_v39 : FVec F S1x1024x3 .f32 := broadcastInDim S1x1024x3 ![1, 2] bcast_S1024x3_S1x1024x3_1_2 main_arg7
  let main_v40 : FVec F S4096x1024x3 .f32 := broadcastInDim S4096x1024x3 ![0, 1, 2] bcast_S4096x1x3_S4096x1024x3_0_1_2 main_v38
  fn_part2 (F := F) main_arg1 main_arg2 main_arg4 main_arg5 main_arg8 main_v2 main_v5 main_v8 main_v11 main_v14 main_v17 main_v20 main_v37 main_v39 main_v40

def fn {F : FTy → Type} [FloatOps F] (main_arg0 : FVec F S16384x10 .f32) (main_arg1 : FVec F S16384x3 .f32) (main_arg2 : IVec S16384 32) (main_arg3 : FVec F S4096x128 .f32) (main_arg4 : FVec F S4096x3 .f32) (main_arg5 : IVec S4096 32) (main_arg6 : FVec F S1024x256 .f32) (main_arg7 : FVec F S1024x3 .f32) (main_arg8 : IVec S1024 32) (main_arg9 : FVec F S256x1024 .f32) (main_arg10 : FVec F S256x3 .f32) (main_arg11 : IVec S256 32) (main_arg12 : FVec F S1280x256 .f32) (main_arg13 : FVec F S256 .f32) (main_arg14 : FVec F S256x256 .f32) (main_arg15 : FVec F S256 .f32) (main_arg16 : FVec F S384x256 .f32) (main_arg17 : FVec F S256 .f32) (main_arg18 : FVec F S256x128 .f32) (main_arg19 : FVec F S128 .f32) (main_arg20 : FVec F S138x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x3 .f32) (main_arg29 : FVec F S3 .f32) : IVec S16x1024 1 × IVec S16x256 1 × IVec S16x64 1 × IVec S16x16 1 × IVec S4096x3 1 × IVec S1024x3 1 × IVec S256x3 1 × IVec S1024x1 1 × IVec S4096x3 1 × IVec S16384x3 1 :=
  let main_v0 : IVec S16x1024 32 := shapeCast S16x1024 main_arg2 shapeCasts_S16384_S16x1024
  let main_v1 : IVec S16x1024 32 := iotaInDim S16x1024 32 0
  let main_v2 : IVec S16x1024 1 := cmpi .eq main_v0 main_v1
  let main_v3 : IVec S16x256 32 := shapeCast S16x256 main_arg5 shapeCasts_S4096_S16x256
  let main_v4 : IVec S16x256 32 := iotaInDim S16x256 32 0
  let main_v5 : IVec S16x256 1 := cmpi .eq main_v3 main_v4
  let main_v6 : IVec S16x64 32 := shapeCast S16x64 main_arg8 shapeCasts_S1024_S16x64
  let main_v7 : IVec S16x64 32 := iotaInDim S16x64 32 0
  let main_v8 : IVec S16x64 1 := cmpi .eq main_v6 main_v7
  let main_v9 : IVec S16x16 32 := shapeCast S16x16 main_arg11 shapeCasts_S256_S16x16
  let main_v10 : IVec S16x16 32 := iotaInDim S16x16 32 0
  let main_v11 : IVec S16x16 1 := cmpi .eq main_v9 main_v10
  let main_v12 : FVec F S4096x3 .f32 := Host.absf main_arg4
  let main_cst : FVec F S_ .f32 := constant S_ .f32 0x7F800000#32
  let main_v13 : FVec F S4096x3 .f32 := broadcastInDim S4096x3 ![] bcast_S_S4096x3 main_cst
  let main_v14 : IVec S4096x3 1 := cmpf .olt main_v12 main_v13
  let main_v15 : FVec F S1024x3 .f32 := Host.absf main_arg7
  let main_cst_0 : FVec F S_ .f32 := constant S_ .f32 0x7F800000#32
  let main_v16 : FVec F S1024x3 .f32 := broadcastInDim S1024x3 ![] bcast_S_S1024x3 main_cst_0
  let main_v17 : IVec S1024x3 1 := cmpf .olt main_v15 main_v16
  let main_v18 : FVec F S256x3 .f32 := Host.absf main_arg10
  let main_cst_1 : FVec F S_ .f32 := constant S_ .f32 0x7F800000#32
  let main_v19 : FVec F S256x3 .f32 := broadcastInDim S256x3 ![] bcast_S_S256x3 main_cst_1
  let main_v20 : IVec S256x3 1 := cmpf .olt main_v18 main_v19
  fn_part1 (F := F) main_arg1 main_arg2 main_arg4 main_arg5 main_arg7 main_arg8 main_arg10 main_arg11 main_v2 main_v5 main_v8 main_v11 main_v14 main_v17 main_v20
-- ==== Kernel.lean ====
abbrev S16384x10 : Shape := ⟨2, ![16384, 10]⟩
abbrev S16384x3 : Shape := ⟨2, ![16384, 3]⟩
abbrev S16384 : Shape := ⟨1, ![16384]⟩
abbrev S4096x128 : Shape := ⟨2, ![4096, 128]⟩
abbrev S4096x3 : Shape := ⟨2, ![4096, 3]⟩
abbrev S4096 : Shape := ⟨1, ![4096]⟩
abbrev S1024x256 : Shape := ⟨2, ![1024, 256]⟩
abbrev S1024x3 : Shape := ⟨2, ![1024, 3]⟩
abbrev S1024 : Shape := ⟨1, ![1024]⟩
abbrev S256x1024 : Shape := ⟨2, ![256, 1024]⟩
abbrev S256x3 : Shape := ⟨2, ![256, 3]⟩
abbrev S256 : Shape := ⟨1, ![256]⟩
abbrev S1280x256 : Shape := ⟨2, ![1280, 256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S138x128 : Shape := ⟨2, ![138, 128]⟩
abbrev S128x128 : Shape := ⟨2, ![128, 128]⟩
abbrev S128x3 : Shape := ⟨2, ![128, 3]⟩
abbrev S3 : Shape := ⟨1, ![3]⟩
abbrev S1x256 : Shape := ⟨2, ![1, 256]⟩
abbrev S1x128 : Shape := ⟨2, ![1, 128]⟩
abbrev S1x3 : Shape := ⟨2, ![1, 3]⟩
abbrev S2048x10 : Shape := ⟨2, ![2048, 10]⟩
abbrev S2048x3 : Shape := ⟨2, ![2048, 3]⟩
abbrev S512x128 : Shape := ⟨2, ![512, 128]⟩
abbrev S512x3 : Shape := ⟨2, ![512, 3]⟩
abbrev S128x256 : Shape := ⟨2, ![128, 256]⟩
abbrev S32x1024 : Shape := ⟨2, ![32, 1024]⟩
abbrev S32x3 : Shape := ⟨2, ![32, 3]⟩
abbrev S64x3 : Shape := ⟨2, ![64, 3]⟩
abbrev S16x3 : Shape := ⟨2, ![16, 3]⟩
abbrev S64 : Shape := ⟨1, ![64]⟩
abbrev S64x1 : Shape := ⟨2, ![64, 1]⟩
abbrev S16 : Shape := ⟨1, ![16]⟩
abbrev S16x1 : Shape := ⟨2, ![16, 1]⟩
abbrev S16x5 : Shape := ⟨2, ![16, 5]⟩
abbrev S64x5 : Shape := ⟨2, ![64, 5]⟩
abbrev S16x64 : Shape := ⟨2, ![16, 64]⟩
abbrev S1x64 : Shape := ⟨2, ![1, 64]⟩
abbrev S256x1 : Shape := ⟨2, ![256, 1]⟩
abbrev S256x5 : Shape := ⟨2, ![256, 5]⟩
abbrev S64x256 : Shape := ⟨2, ![64, 256]⟩
abbrev S1024x1 : Shape := ⟨2, ![1024, 1]⟩
abbrev S1024x5 : Shape := ⟨2, ![1024, 5]⟩
abbrev S1x1024 : Shape := ⟨2, ![1, 1024]⟩
abbrev S16x1024 : Shape := ⟨2, ![16, 1024]⟩
abbrev S64x1024 : Shape := ⟨2, ![64, 1024]⟩
abbrev S64x1280 : Shape := ⟨2, ![64, 1280]⟩
abbrev S256x384 : Shape := ⟨2, ![256, 384]⟩
abbrev S1024x128 : Shape := ⟨2, ![1024, 128]⟩
abbrev S1024x10 : Shape := ⟨2, ![1024, 10]⟩
abbrev S1024x138 : Shape := ⟨2, ![1024, 138]⟩

abbrev nBuf : Space → Nat
  | .hbm => 40
  | .vmem => 36
  | .smem => 0
  | _ => 0

abbrev bufTy : (tb : Table) → Fin (tcTables nBuf tb) → BufTy
  | .hbm, ⟨0, _⟩ => ⟨S16384x10, .f32⟩
  | .hbm, ⟨1, _⟩ => ⟨S16384x3, .f32⟩
  | .hbm, ⟨2, _⟩ => ⟨S16384, .i32⟩
  | .hbm, ⟨3, _⟩ => ⟨S4096x128, .f32⟩
  | .hbm, ⟨4, _⟩ => ⟨S4096x3, .f32⟩
  | .hbm, ⟨5, _⟩ => ⟨S4096, .i32⟩
  | .hbm, ⟨6, _⟩ => ⟨S1024x256, .f32⟩
  | .hbm, ⟨7, _⟩ => ⟨S1024x3, .f32⟩
  | .hbm, ⟨8, _⟩ => ⟨S1024, .i32⟩
  | .hbm, ⟨9, _⟩ => ⟨S256x1024, .f32⟩
  | .hbm, ⟨10, _⟩ => ⟨S256x3, .f32⟩
  | .hbm, ⟨11, _⟩ => ⟨S256, .i32⟩
  | .hbm, ⟨12, _⟩ => ⟨S1280x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S384x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S138x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x3, .f32⟩
  | .hbm, ⟨29, _⟩ => ⟨S3, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x3, .f32⟩
  | .hbm, ⟨39, _⟩ => ⟨S16384x3, .f32⟩
  | .local _ .vmem, ⟨0, _⟩ => ⟨S2048x10, .f32⟩
  | .local _ .vmem, ⟨1, _⟩ => ⟨S2048x10, .f32⟩
  | .local _ .vmem, ⟨2, _⟩ => ⟨S2048x3, .f32⟩
  | .local _ .vmem, ⟨3, _⟩ => ⟨S2048x3, .f32⟩
  | .local _ .vmem, ⟨4, _⟩ => ⟨S512x128, .f32⟩
  | .local _ .vmem, ⟨5, _⟩ => ⟨S512x128, .f32⟩
  | .local _ .vmem, ⟨6, _⟩ => ⟨S512x3, .f32⟩
  | .local _ .vmem, ⟨7, _⟩ => ⟨S512x3, .f32⟩
  | .local _ .vmem, ⟨8, _⟩ => ⟨S128x256, .f32⟩
  | .local _ .vmem, ⟨9, _⟩ => ⟨S128x256, .f32⟩
  | .local _ .vmem, ⟨10, _⟩ => ⟨S128x3, .f32⟩
  | .local _ .vmem, ⟨11, _⟩ => ⟨S128x3, .f32⟩
  | .local _ .vmem, ⟨12, _⟩ => ⟨S32x1024, .f32⟩
  | .local _ .vmem, ⟨13, _⟩ => ⟨S32x1024, .f32⟩
  | .local _ .vmem, ⟨14, _⟩ => ⟨S32x3, .f32⟩
  | .local _ .vmem, ⟨15, _⟩ => ⟨S32x3, .f32⟩
  | .local _ .vmem, ⟨16, _⟩ => ⟨S1280x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S384x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S138x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x3, .f32⟩
  | .local _ .vmem, ⟨33, _⟩ => ⟨S1x3, .f32⟩
  | .local _ .vmem, ⟨34, _⟩ => ⟨S2048x3, .f32⟩
  | .local _ .vmem, ⟨35, _⟩ => ⟨S2048x3, .f32⟩
  | _, _ => ⟨S16384x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg26_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem26_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1280x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S138x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x3 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x3 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2048x3 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ReferenceIdeal.lean ====
abbrev S16384x10 : Shape := ⟨2, ![16384, 10]⟩
abbrev S16384x3 : Shape := ⟨2, ![16384, 3]⟩
abbrev S16384 : Shape := ⟨1, ![16384]⟩
abbrev S4096x128 : Shape := ⟨2, ![4096, 128]⟩
abbrev S4096x3 : Shape := ⟨2, ![4096, 3]⟩
abbrev S4096 : Shape := ⟨1, ![4096]⟩
abbrev S1024x256 : Shape := ⟨2, ![1024, 256]⟩
abbrev S1024x3 : Shape := ⟨2, ![1024, 3]⟩
abbrev S1024 : Shape := ⟨1, ![1024]⟩
abbrev S256x1024 : Shape := ⟨2, ![256, 1024]⟩
abbrev S256x3 : Shape := ⟨2, ![256, 3]⟩
abbrev S256 : Shape := ⟨1, ![256]⟩
abbrev S1280x256 : Shape := ⟨2, ![1280, 256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S138x128 : Shape := ⟨2, ![138, 128]⟩
abbrev S128x128 : Shape := ⟨2, ![128, 128]⟩
abbrev S128x3 : Shape := ⟨2, ![128, 3]⟩
abbrev S3 : Shape := ⟨1, ![3]⟩
abbrev S1024x1x3 : Shape := ⟨3, ![1024, 1, 3]⟩
abbrev S1x256x3 : Shape := ⟨3, ![1, 256, 3]⟩
abbrev S1024x256x3 : Shape := ⟨3, ![1024, 256, 3]⟩
abbrev S_ : Shape := ⟨0, ![]⟩
abbrev S1024x1 : Shape := ⟨2, ![1024, 1]⟩
abbrev S1x256 : Shape := ⟨2, ![1, 256]⟩
abbrev S1024x1x1 : Shape := ⟨3, ![1024, 1, 1]⟩
abbrev S1024x1x1024 : Shape := ⟨3, ![1024, 1, 1024]⟩
abbrev S1024x1024 : Shape := ⟨2, ![1024, 1024]⟩
abbrev S1024x1280 : Shape := ⟨2, ![1024, 1280]⟩
abbrev S4096x1x3 : Shape := ⟨3, ![4096, 1, 3]⟩
abbrev S1x1024x3 : Shape := ⟨3, ![1, 1024, 3]⟩
abbrev S4096x1024x3 : Shape := ⟨3, ![4096, 1024, 3]⟩
abbrev S4096x1024 : Shape := ⟨2, ![4096, 1024]⟩
abbrev S4096x1 : Shape := ⟨2, ![4096, 1]⟩
abbrev S1x1024 : Shape := ⟨2, ![1, 1024]⟩
abbrev S4096x3x1 : Shape := ⟨3, ![4096, 3, 1]⟩
abbrev S4096x3x256 : Shape := ⟨3, ![4096, 3, 256]⟩
abbrev S4096x256 : Shape := ⟨2, ![4096, 256]⟩
abbrev S4096x384 : Shape := ⟨2, ![4096, 384]⟩
abbrev S1x128 : Shape := ⟨2, ![1, 128]⟩
abbrev S16384x1x3 : Shape := ⟨3, ![16384, 1, 3]⟩
abbrev S1x4096x3 : Shape := ⟨3, ![1, 4096, 3]⟩
abbrev S16384x4096x3 : Shape := ⟨3, ![16384, 4096, 3]⟩
abbrev S16384x4096 : Shape := ⟨2, ![16384, 4096]⟩
abbrev S16384x1 : Shape := ⟨2, ![16384, 1]⟩
abbrev S1x4096 : Shape := ⟨2, ![1, 4096]⟩
abbrev S16384x3x1 : Shape := ⟨3, ![16384, 3, 1]⟩
abbrev S16384x3x128 : Shape := ⟨3, ![16384, 3, 128]⟩
abbrev S16384x128 : Shape := ⟨2, ![16384, 128]⟩
abbrev S16384x138 : Shape := ⟨2, ![16384, 138]⟩
abbrev S1x3 : Shape := ⟨2, ![1, 3]⟩

abbrev nBuf : Space → Nat
  | .hbm => 233
  | .vmem => 0
  | .smem => 0
  | _ => 0

abbrev hbmTy0_0 (i : Nat) : BufTy := match i % 128 with
  | 0 => ⟨S16384x10, .f32⟩
  | 1 => ⟨S16384x3, .f32⟩
  | 2 => ⟨S16384, .i32⟩
  | 3 => ⟨S4096x128, .f32⟩
  | 4 => ⟨S4096x3, .f32⟩
  | 5 => ⟨S4096, .i32⟩
  | 6 => ⟨S1024x256, .f32⟩
  | 7 => ⟨S1024x3, .f32⟩
  | 8 => ⟨S1024, .i32⟩
  | 9 => ⟨S256x1024, .f32⟩
  | 10 => ⟨S256x3, .f32⟩
  | 11 => ⟨S256, .i32⟩
  | 12 => ⟨S1280x256, .f32⟩
  | 13 => ⟨S256, .f32⟩
  | 14 => ⟨S256x256, .f32⟩
  | 15 => ⟨S256, .f32⟩
  | 16 => ⟨S384x256, .f32⟩
  | 17 => ⟨S256, .f32⟩
  | 18 => ⟨S256x128, .f32⟩
  | 19 => ⟨S128, .f32⟩
  | 20 => ⟨S138x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x3, .f32⟩
  | 29 => ⟨S3, .f32⟩
  | 30 => ⟨S1024x1x3, .f32⟩
  | 31 => ⟨S1x256x3, .f32⟩
  | 32 => ⟨S1024x256x3, .f32⟩
  | 33 => ⟨S1024x256x3, .f32⟩
  | 34 => ⟨S1024x256x3, .f32⟩
  | 35 => ⟨S1024x256x3, .f32⟩
  | 36 => ⟨S_, .f32⟩
  | 37 => ⟨S1024x256, .f32⟩
  | 38 => ⟨S1024x1, .i32⟩
  | 39 => ⟨S1x256, .i32⟩
  | 40 => ⟨S1024x256, .i32⟩
  | 41 => ⟨S1024x256, .i32⟩
  | 42 => ⟨S1024x256, .i1⟩
  | 43 => ⟨S_, .f32⟩
  | 44 => ⟨S_, .f32⟩
  | 45 => ⟨S1024x256, .f32⟩
  | 46 => ⟨S1024x256, .f32⟩
  | 47 => ⟨S1024x256, .f32⟩
  | 48 => ⟨S1024x1, .f32⟩
  | 49 => ⟨S1024x1, .i32⟩
  | 50 => ⟨S1024x1, .f32⟩
  | 51 => ⟨S_, .f32⟩
  | 52 => ⟨S_, .f32⟩
  | 53 => ⟨S1024x1, .f32⟩
  | 54 => ⟨S1024x1, .f32⟩
  | 55 => ⟨S_, .f32⟩
  | 56 => ⟨S1024x1, .f32⟩
  | 57 => ⟨S1024x1, .f32⟩
  | 58 => ⟨S_, .f32⟩
  | 59 => ⟨S1024, .f32⟩
  | 60 => ⟨S1024x1, .f32⟩
  | 61 => ⟨S1024x1, .f32⟩
  | 62 => ⟨S_, .i32⟩
  | 63 => ⟨S1024x1, .i32⟩
  | 64 => ⟨S1024x1, .i1⟩
  | 65 => ⟨S_, .i32⟩
  | 66 => ⟨S1024x1, .i32⟩
  | 67 => ⟨S1024x1, .i32⟩
  | 68 => ⟨S1024x1, .i32⟩
  | 69 => ⟨S1024x1x1, .i32⟩
  | 70 => ⟨S1024x1x1024, .f32⟩
  | 71 => ⟨S1024x1x1, .f32⟩
  | 72 => ⟨S1024x1x1024, .f32⟩
  | 73 => ⟨S1024x1x1024, .f32⟩
  | 74 => ⟨S_, .f32⟩
  | 75 => ⟨S1024x1024, .f32⟩
  | 76 => ⟨S1024x1280, .f32⟩
  | 77 => ⟨S1024x256, .f32⟩
  | 78 => ⟨S1x256, .f32⟩
  | 79 => ⟨S1024x256, .f32⟩
  | 80 => ⟨S1024x256, .f32⟩
  | 81 => ⟨S_, .f32⟩
  | 82 => ⟨S1024x256, .f32⟩
  | 83 => ⟨S1024x256, .f32⟩
  | 84 => ⟨S1024x256, .f32⟩
  | 85 => ⟨S1x256, .f32⟩
  | 86 => ⟨S1024x256, .f32⟩
  | 87 => ⟨S1024x256, .f32⟩
  | 88 => ⟨S_, .f32⟩
  | 89 => ⟨S1024x256, .f32⟩
  | 90 => ⟨S1024x256, .f32⟩
  | 91 => ⟨S4096x1x3, .f32⟩
  | 92 => ⟨S1x1024x3, .f32⟩
  | 93 => ⟨S4096x1024x3, .f32⟩
  | 94 => ⟨S4096x1024x3, .f32⟩
  | 95 => ⟨S4096x1024x3, .f32⟩
  | 96 => ⟨S4096x1024x3, .f32⟩
  | 97 => ⟨S_, .f32⟩
  | 98 => ⟨S4096x1024, .f32⟩
  | 99 => ⟨S4096x1, .i32⟩
  | 100 => ⟨S1x1024, .i32⟩
  | 101 => ⟨S4096x1024, .i32⟩
  | 102 => ⟨S4096x1024, .i32⟩
  | 103 => ⟨S4096x1024, .i1⟩
  | 104 => ⟨S_, .f32⟩
  | 105 => ⟨S_, .f32⟩
  | 106 => ⟨S4096x1024, .f32⟩
  | 107 => ⟨S4096x1024, .f32⟩
  | 108 => ⟨S4096x1024, .f32⟩
  | 109 => ⟨S4096x3, .f32⟩
  | 110 => ⟨S4096x3, .i32⟩
  | 111 => ⟨S4096x3, .f32⟩
  | 112 => ⟨S_, .f32⟩
  | 113 => ⟨S_, .f32⟩
  | 114 => ⟨S4096x3, .f32⟩
  | 115 => ⟨S4096x3, .f32⟩
  | 116 => ⟨S_, .f32⟩
  | 117 => ⟨S4096x3, .f32⟩
  | 118 => ⟨S4096x3, .f32⟩
  | 119 => ⟨S_, .f32⟩
  | 120 => ⟨S4096, .f32⟩
  | 121 => ⟨S4096x1, .f32⟩
  | 122 => ⟨S4096x3, .f32⟩
  | 123 => ⟨S4096x3, .f32⟩
  | 124 => ⟨S_, .i32⟩
  | 125 => ⟨S4096x3, .i32⟩
  | 126 => ⟨S4096x3, .i1⟩
  | 127 => ⟨S_, .i32⟩
  | _ => ⟨S16384x10, .f32⟩

abbrev hbmTy0_1 (i : Nat) : BufTy := match i % 128 with
  | 0 => ⟨S4096x3, .i32⟩
  | 1 => ⟨S4096x3, .i32⟩
  | 2 => ⟨S4096x3, .i32⟩
  | 3 => ⟨S4096x3x1, .i32⟩
  | 4 => ⟨S4096x3x256, .f32⟩
  | 5 => ⟨S4096x3x1, .f32⟩
  | 6 => ⟨S4096x3x256, .f32⟩
  | 7 => ⟨S4096x3x256, .f32⟩
  | 8 => ⟨S_, .f32⟩
  | 9 => ⟨S4096x256, .f32⟩
  | 10 => ⟨S4096x384, .f32⟩
  | 11 => ⟨S4096x256, .f32⟩
  | 12 => ⟨S1x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S4096x128, .f32⟩
  | 19 => ⟨S1x128, .f32⟩
  | 20 => ⟨S4096x128, .f32⟩
  | 21 => ⟨S4096x128, .f32⟩
  | 22 => ⟨S_, .f32⟩
  | 23 => ⟨S4096x128, .f32⟩
  | 24 => ⟨S4096x128, .f32⟩
  | 25 => ⟨S16384x1x3, .f32⟩
  | 26 => ⟨S1x4096x3, .f32⟩
  | 27 => ⟨S16384x4096x3, .f32⟩
  | 28 => ⟨S16384x4096x3, .f32⟩
  | 29 => ⟨S16384x4096x3, .f32⟩
  | 30 => ⟨S16384x4096x3, .f32⟩
  | 31 => ⟨S_, .f32⟩
  | 32 => ⟨S16384x4096, .f32⟩
  | 33 => ⟨S16384x1, .i32⟩
  | 34 => ⟨S1x4096, .i32⟩
  | 35 => ⟨S16384x4096, .i32⟩
  | 36 => ⟨S16384x4096, .i32⟩
  | 37 => ⟨S16384x4096, .i1⟩
  | 38 => ⟨S_, .f32⟩
  | 39 => ⟨S_, .f32⟩
  | 40 => ⟨S16384x4096, .f32⟩
  | 41 => ⟨S16384x4096, .f32⟩
  | 42 => ⟨S16384x4096, .f32⟩
  | 43 => ⟨S16384x3, .f32⟩
  | 44 => ⟨S16384x3, .i32⟩
  | 45 => ⟨S16384x3, .f32⟩
  | 46 => ⟨S_, .f32⟩
  | 47 => ⟨S_, .f32⟩
  | 48 => ⟨S16384x3, .f32⟩
  | 49 => ⟨S16384x3, .f32⟩
  | 50 => ⟨S_, .f32⟩
  | 51 => ⟨S16384x3, .f32⟩
  | 52 => ⟨S16384x3, .f32⟩
  | 53 => ⟨S_, .f32⟩
  | 54 => ⟨S16384, .f32⟩
  | 55 => ⟨S16384x1, .f32⟩
  | 56 => ⟨S16384x3, .f32⟩
  | 57 => ⟨S16384x3, .f32⟩
  | 58 => ⟨S_, .i32⟩
  | 59 => ⟨S16384x3, .i32⟩
  | 60 => ⟨S16384x3, .i1⟩
  | 61 => ⟨S_, .i32⟩
  | 62 => ⟨S16384x3, .i32⟩
  | 63 => ⟨S16384x3, .i32⟩
  | 64 => ⟨S16384x3, .i32⟩
  | 65 => ⟨S16384x3x1, .i32⟩
  | 66 => ⟨S16384x3x128, .f32⟩
  | 67 => ⟨S16384x3x1, .f32⟩
  | 68 => ⟨S16384x3x128, .f32⟩
  | 69 => ⟨S16384x3x128, .f32⟩
  | 70 => ⟨S_, .f32⟩
  | 71 => ⟨S16384x128, .f32⟩
  | 72 => ⟨S16384x138, .f32⟩
  | 73 => ⟨S16384x128, .f32⟩
  | 74 => ⟨S1x128, .f32⟩
  | 75 => ⟨S16384x128, .f32⟩
  | 76 => ⟨S16384x128, .f32⟩
  | 77 => ⟨S_, .f32⟩
  | 78 => ⟨S16384x128, .f32⟩
  | 79 => ⟨S16384x128, .f32⟩
  | 80 => ⟨S16384x128, .f32⟩
  | 81 => ⟨S1x128, .f32⟩
  | 82 => ⟨S16384x128, .f32⟩
  | 83 => ⟨S16384x128, .f32⟩
  | 84 => ⟨S_, .f32⟩
  | 85 => ⟨S16384x128, .f32⟩
  | 86 => ⟨S16384x128, .f32⟩
  | 87 => ⟨S16384x128, .f32⟩
  | 88 => ⟨S1x128, .f32⟩
  | 89 => ⟨S16384x128, .f32⟩
  | 90 => ⟨S16384x128, .f32⟩
  | 91 => ⟨S_, .f32⟩
  | 92 => ⟨S16384x128, .f32⟩
  | 93 => ⟨S16384x128, .f32⟩
  | 94 => ⟨S16384x128, .f32⟩
  | 95 => ⟨S1x128, .f32⟩
  | 96 => ⟨S16384x128, .f32⟩
  | 97 => ⟨S16384x128, .f32⟩
  | 98 => ⟨S_, .f32⟩
  | 99 => ⟨S16384x128, .f32⟩
  | 100 => ⟨S16384x128, .f32⟩
  | 101 => ⟨S16384x3, .f32⟩
  | 102 => ⟨S1x3, .f32⟩
  | 103 => ⟨S16384x3, .f32⟩
  | 104 => ⟨S16384x3, .f32⟩
  | _ => ⟨S16384x10, .f32⟩

abbrev hbmTy (i : Nat) : BufTy := match i / 128 with
  | 0 => hbmTy0_0 i
  | 1 => hbmTy0_1 i
  | _ => ⟨S16384x10, .f32⟩

abbrev bufTy : (tb : Table) → Fin (tcTables nBuf tb) → BufTy
  | .hbm, ⟨i, _⟩ => hbmTy i
  | _, _ => ⟨S16384x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_v12 : Ref sig .tc := ⟨.hbm, 46, rfl⟩
abbrev main_v13 : Ref sig .tc := ⟨.hbm, 47, rfl⟩
abbrev main_values : Ref sig .tc := ⟨.hbm, 48, rfl⟩
abbrev main_indices : Ref sig .tc := ⟨.hbm, 49, rfl⟩
abbrev main_v14 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_v15 : Ref sig .tc := ⟨.hbm, 54, rfl⟩
abbrev main_cst_2 : Ref sig .tc := ⟨.hbm, 55, rfl⟩
abbrev main_v16 : Ref sig .tc := ⟨.hbm, 56, rfl⟩
abbrev main_v17 : Ref sig .tc := ⟨.hbm, 57, rfl⟩
abbrev main_cst_3 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_5 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_call2_cst : Ref sig .tc := ⟨.hbm, 81, rfl⟩
abbrev main_call2_v0 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call3_cst : Ref sig .tc := ⟨.hbm, 88, rfl⟩
abbrev main_call3_v0 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_6 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_7 : Ref sig .tc := ⟨.hbm, 104, rfl⟩
abbrev main_call4_v0 : Ref sig .tc := ⟨.hbm, 105, rfl⟩
abbrev main_call4_v1 : Ref sig .tc := ⟨.hbm, 106, rfl⟩
abbrev main_v55 : Ref sig .tc := ⟨.hbm, 107, rfl⟩
abbrev main_v56 : Ref sig .tc := ⟨.hbm, 108, rfl⟩
abbrev main_values_8 : Ref sig .tc := ⟨.hbm, 109, rfl⟩
abbrev main_indices_9 : Ref sig .tc := ⟨.hbm, 110, rfl⟩
abbrev main_v57 : Ref sig .tc := ⟨.hbm, 111, rfl⟩
abbrev main_cst_10 : Ref sig .tc := ⟨.hbm, 112, rfl⟩
abbrev main_call5_v0 : Ref sig .tc := ⟨.hbm, 113, rfl⟩
abbrev main_call5_v1 : Ref sig .tc := ⟨.hbm, 114, rfl⟩
abbrev main_v58 : Ref sig .tc := ⟨.hbm, 115, rfl⟩
abbrev main_cst_11 : Ref sig .tc := ⟨.hbm, 116, rfl⟩
abbrev main_v59 : Ref sig .tc := ⟨.hbm, 117, rfl⟩
abbrev main_v60 : Ref sig .tc := ⟨.hbm, 118, rfl⟩
abbrev main_cst_12 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_13 : Ref sig .tc := ⟨.hbm, 124, rfl⟩
abbrev main_v65 : Ref sig .tc := ⟨.hbm, 125, rfl⟩
abbrev main_v66 : Ref sig .tc := ⟨.hbm, 126, rfl⟩
abbrev main_c_14 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_15 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_call6_cst : Ref sig .tc := ⟨.hbm, 143, rfl⟩
abbrev main_call6_v0 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call7_cst : Ref sig .tc := ⟨.hbm, 150, rfl⟩
abbrev main_call7_v0 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_16 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_17 : Ref sig .tc := ⟨.hbm, 166, rfl⟩
abbrev main_call8_v0 : Ref sig .tc := ⟨.hbm, 167, rfl⟩
abbrev main_call8_v1 : Ref sig .tc := ⟨.hbm, 168, rfl⟩
abbrev main_v99 : Ref sig .tc := ⟨.hbm, 169, rfl⟩
abbrev main_v100 : Ref sig .tc := ⟨.hbm, 170, rfl⟩
abbrev main_values_18 : Ref sig .tc := ⟨.hbm, 171, rfl⟩
abbrev main_indices_19 : Ref sig .tc := ⟨.hbm, 172, rfl⟩
abbrev main_v101 : Ref sig .tc := ⟨.hbm, 173, rfl⟩
abbrev main_cst_20 : Ref sig .tc := ⟨.hbm, 174, rfl⟩
abbrev main_call9_v0 : Ref sig .tc := ⟨.hbm, 175, rfl⟩
abbrev main_call9_v1 : Ref sig .tc := ⟨.hbm, 176, rfl⟩
abbrev main_v102 : Ref sig .tc := ⟨.hbm, 177, rfl⟩
abbrev main_cst_21 : Ref sig .tc := ⟨.hbm, 178, rfl⟩
abbrev main_v103 : Ref sig .tc := ⟨.hbm, 179, rfl⟩
abbrev main_v104 : Ref sig .tc := ⟨.hbm, 180, rfl⟩
abbrev main_cst_22 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_c_23 : Ref sig .tc := ⟨.hbm, 186, rfl⟩
abbrev main_v109 : Ref sig .tc := ⟨.hbm, 187, rfl⟩
abbrev main_v110 : Ref sig .tc := ⟨.hbm, 188, rfl⟩
abbrev main_c_24 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_25 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_call10_cst : Ref sig .tc := ⟨.hbm, 205, rfl⟩
abbrev main_call10_v0 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_call11_cst : Ref sig .tc := ⟨.hbm, 212, rfl⟩
abbrev main_call11_v0 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_call12_cst : Ref sig .tc := ⟨.hbm, 219, rfl⟩
abbrev main_call12_v0 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_call13_cst : Ref sig .tc := ⟨.hbm, 226, rfl⟩
abbrev main_call13_v0 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩

abbrev nD : Nat := 1
abbrev τ : Topo := Topo.v7x

variable {F : FTy → Type} [FloatOps F]
-- ==== Proof.Shapes.lean ====
/-
  The shape relations that the programs' layout operations take, for any extents, and the contraction of two matrices
  along their rows.
-/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.ShapeFacts
public import Idealize.ShloMosaic.Lib.StackMember

@[expose] public section

namespace Cert.Cloud

open Idealize.ShloMosaic

/-- The shape of an `a × b` matrix. -/
abbrev M2 (a b : ℕ) : Shape := ⟨2, ![a, b]⟩
/-- The shape of a vector of `a` elements. -/
abbrev M1 (a : ℕ) : Shape := ⟨1, ![a]⟩
/-- The shape of an `a × b × c` array. -/
abbrev M3 (a b c : ℕ) : Shape := ⟨3, ![a, b, c]⟩
/-- The shape of a scalar. -/
abbrev M0 : Shape := ⟨0, ![]⟩

variable (a b c d : ℕ)

theorem red_cols : (M2 a b).Reduces [1] (M1 a) :=
  ⟨rfl, Nat.one_pos, fun i => by match i with | ⟨0, _⟩ => rfl⟩
theorem red_rows : (M2 a b).Reduces [0] (M1 b) :=
  ⟨rfl, Nat.one_pos, fun i => by match i with | ⟨0, _⟩ => rfl⟩
theorem cast_col : (M1 a).ShapeCasts (M2 a 1) := by simp [Shape.ShapeCasts, Shape.numel_rank2, Shape.numel_rank1]
theorem cast_row : (M1 a).ShapeCasts (M2 1 a) := by simp [Shape.ShapeCasts, Shape.numel_rank2, Shape.numel_rank1]
theorem cast_turn : (M2 1 a).ShapeCasts (M2 a 1) := by simp [Shape.ShapeCasts, Shape.numel_rank2, Shape.numel_rank1]
theorem cast_same : (M2 a b).ShapeCasts (M2 a b) := rfl
theorem spread_row : (M2 1 b).Broadcasts (M2 a b) :=
  ⟨le_refl _, fun i => by match i with | ⟨0, _⟩ => exact Or.inl rfl | ⟨1, _⟩ => exact Or.inr fun _ => rfl⟩
theorem spread_col : (M2 a 1).Broadcasts (M2 a b) :=
  ⟨le_refl _, fun i => by match i with | ⟨1, _⟩ => exact Or.inl rfl | ⟨0, _⟩ => exact Or.inr fun _ => rfl⟩
theorem concat_two (h : b + c = d) : Shape.Concatenates [M2 a b, M2 a c] (M2 a d) 1 := by
  refine ⟨by simp, fun s hs => ?_, ?_⟩
  · simp only [List.mem_cons, List.not_mem_nil, or_false] at hs
    rcases hs with rfl | rfl <;>
    exact ⟨rfl, fun i hi => by match i with | ⟨0, _⟩ => rfl | ⟨1, _⟩ => exact absurd rfl hi⟩
  · exact h
theorem concat_five : Shape.Concatenates [M2 a 3, M2 a 1, M2 a 1] (M2 a 5) 1 := by
  refine ⟨by simp, fun s hs => ?_, rfl⟩
  simp only [List.mem_cons, List.not_mem_nil, or_false] at hs
  rcases hs with rfl | rfl | rfl <;>
  exact ⟨rfl, fun i hi => by match i with | ⟨0, _⟩ => rfl | ⟨1, _⟩ => exact absurd rfl hi⟩

/-- `[K, M]ᵀ × [K, N]`: the product that contracts both operands' rows. -/
def crossDims (K M N : ℕ) : DotDims (M2 K M) (M2 K N) (M2 M N) where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, Nat.two_pos, fun i => by match i with | ⟨0, _⟩ => rfl | ⟨1, _⟩ => rfl⟩

/-! ## The host's relations -/

theorem hred_cols : (M2 a b).ReducesTo [1] (M1 a) :=
  ⟨rfl, fun i => by match i with | ⟨0, _⟩ => rfl⟩
theorem hred_last : (M3 a b c).ReducesTo [2] (M2 a b) :=
  ⟨rfl, fun i => by match i with | ⟨0, _⟩ => rfl | ⟨1, _⟩ => rfl⟩
theorem hred_mid : (M3 a b c).ReducesTo [1] (M2 a c) :=
  ⟨rfl, fun i => by match i with | ⟨0, _⟩ => rfl | ⟨1, _⟩ => rfl⟩
theorem scalar_pos : 0 < M0.numel := by decide
theorem bc_scalar (s : Shape) : M0.BroadcastsInDim s (![] : Fin 0 → Fin s.rank) :=
  ⟨fun i => i.elim0, fun i => i.elim0⟩
theorem bc_col : (M1 a).BroadcastsInDim (M2 a 1) ![0] :=
  ⟨fun i j h => Subsingleton.elim _ _, fun i => by match i with | ⟨0, _⟩ => exact Or.inr rfl⟩
theorem bc_row : (M1 a).BroadcastsInDim (M2 1 a) ![1] :=
  ⟨fun i j h => Subsingleton.elim _ _, fun i => by match i with | ⟨0, _⟩ => exact Or.inr rfl⟩
theorem bc_cols : (M2 a 1).BroadcastsInDim (M2 a b) ![0, 1] :=
  ⟨(by decide : Function.Injective (![0, 1] : Fin 2 → Fin 2)), fun i => by match i with | ⟨0, _⟩ => exact Or.inr rfl | ⟨1, _⟩ => exact Or.inl rfl⟩
theorem bc_rows : (M2 1 b).BroadcastsInDim (M2 a b) ![0, 1] :=
  ⟨(by decide : Function.Injective (![0, 1] : Fin 2 → Fin 2)), fun i => by match i with | ⟨0, _⟩ => exact Or.inl rfl | ⟨1, _⟩ => exact Or.inr rfl⟩
theorem bc_mid1 : (M2 a c).BroadcastsInDim (M3 a 1 c) ![0, 2] :=
  ⟨(by decide : Function.Injective (![0, 2] : Fin 2 → Fin 3)), fun i => by match i with | ⟨0, _⟩ => exact Or.inr rfl | ⟨1, _⟩ => exact Or.inr rfl⟩
theorem bc_lead1 : (M2 b c).BroadcastsInDim (M3 1 b c) ![1, 2] :=
  ⟨(by decide : Function.Injective (![1, 2] : Fin 2 → Fin 3)), fun i => by match i with | ⟨0, _⟩ => exact Or.inr rfl | ⟨1, _⟩ => exact Or.inr rfl⟩
theorem bc_last1 : (M2 a b).BroadcastsInDim (M3 a b 1) ![0, 1] :=
  ⟨(by decide : Function.Injective (![0, 1] : Fin 2 → Fin 3)), fun i => by match i with | ⟨0, _⟩ => exact Or.inr rfl | ⟨1, _⟩ => exact Or.inr rfl⟩
theorem bc_mid : (M3 a 1 c).BroadcastsInDim (M3 a b c) ![0, 1, 2] :=
  ⟨(by decide : Function.Injective (![0, 1, 2] : Fin 3 → Fin 3)), fun i => by match i with | ⟨0, _⟩ => exact Or.inr rfl | ⟨1, _⟩ => exact Or.inl rfl | ⟨2, _⟩ => exact Or.inr rfl⟩
theorem bc_lead : (M3 1 b c).BroadcastsInDim (M3 a b c) ![0, 1, 2] :=
  ⟨(by decide : Function.Injective (![0, 1, 2] : Fin 3 → Fin 3)), fun i => by match i with | ⟨0, _⟩ => exact Or.inl rfl | ⟨1, _⟩ => exact Or.inr rfl | ⟨2, _⟩ => exact Or.inr rfl⟩
theorem bc_last : (M3 a b 1).BroadcastsInDim (M3 a b c) ![0, 1, 2] :=
  ⟨(by decide : Function.Injective (![0, 1, 2] : Fin 3 → Fin 3)), fun i => by match i with | ⟨2, _⟩ => exact Or.inl rfl | ⟨1, _⟩ => exact Or.inr rfl | ⟨0, _⟩ => exact Or.inr rfl⟩
theorem slice_cols (k : ℕ) (h : k ≤ b) : (M2 a b).Slices (fun _ => 0) (M2 a k) :=
  ⟨rfl, fun i => by match i with | ⟨0, _⟩ => exact (by simp) | ⟨1, _⟩ => exact (by simpa using h)⟩

end Cert.Cloud
-- ==== Proof.KernelTerms.lean ====
/-
  What one batch of the kernel's body computes, named step by step for any number `n` of target points and `m` of source
  points: the distances, the least of each column, the weights of the nearest sources, the interpolation and a dense
  layer. Distances and weights are held sources by targets.
-/
module

public import proofs.«01_k».proof.Proof.Shapes

@[expose] public section

noncomputable section

namespace Cert.Cloud

open Idealize.ShloMosaic

/-- An `a × b` matrix of extended reals. -/
abbrev Mat (a b : ℕ) : Type := FVec Ideal (M2 a b) .f32
/-- A vector of extended reals. -/
abbrev Arr (a : ℕ) : Type := FVec Ideal (M1 a) .f32

variable {n m c k : ℕ}

/-- The matrix that holds one float word everywhere. -/
abbrev splat (a b : ℕ) (w : BitVec 32) : Mat a b := broadcast (M2 a b) (Scalar.ofBits (F := Ideal) .f32 w)

/-- The squared lengths of the points `p`, one column. -/
def lengths (p : Mat n 3) : Mat n 1 :=
  shapeCast (M2 n 1) (multiReduction .add [1] (M1 n) (mulf p p) 0x00000000#32 (red_cols n 3) (.inl rfl) rfl) (cast_col n)

/-- The squared distances of the sources `s` (rows) to the targets `q` (columns): `[-2 s, |s|², 1] · [q, 1, |q|²]`. -/
def distances (q : Mat n 3) (s : Mat m 3) : Mat m n :=
  matmul (DotDims.transposedRhs m 5 n) (some .fp32)
    (concatenate (M2 m 5) 1 [⟨M2 m 3, mulf (splat m 3 0xC0000000#32) s⟩, ⟨M2 m 1, lengths s⟩, ⟨M2 m 1, splat m 1 0x3F800000#32⟩]
      (concat_five m))
    (concatenate (M2 n 5) 1 [⟨M2 n 3, q⟩, ⟨M2 n 1, splat n 1 0x3F800000#32⟩, ⟨M2 n 1, lengths q⟩] (concat_five n))
    (constant (M2 m n) .f32 0x00000000#32)

/-- The least of each column. -/
def least (d : Mat m n) : Mat 1 n :=
  shapeCast (M2 1 n) (multiReduction .minimumf [0] (M1 n) d 0x7F800000#32 (red_rows m n) (.inl rfl) rfl) (cast_row n)

/-- The column sums. -/
def colSum (d : Mat m n) : Mat 1 n :=
  shapeCast (M2 1 n) (multiReduction .add [0] (M1 n) d 0x00000000#32 (red_rows m n) (.inl rfl) rfl) (cast_row n)

/-- A row repeated over `m` rows. -/
abbrev rows (m : ℕ) (v : Mat 1 n) : Mat m n := broadcastTo (M2 m n) v (spread_row m n)

/-- `d` with everything up to the row `t` put out of the way. -/
def without (d : Mat m n) (t : Mat 1 n) : Mat m n :=
  select (cmpf .ole d (rows m t)) (splat m n 0x7149F2CA#32) d

/-- The weight of the nearest source alone: one over the number of sources at the least distance. -/
def weight1 (d : Mat m n) : Mat m n :=
  let w : Mat m n := select (cmpf .ole d (rows m (least d))) (splat m n 0x3F800000#32) (splat m n 0x00000000#32)
  divf w (rows m (colSum w))

/-- The inverse of a distance kept away from zero. -/
def inverse (d : Mat m n) : Mat m n := divf (splat m n 0x3F800000#32) (maximumf d (splat m n 0x24E69595#32))

/-- The second and the third least of each column. -/
def second (d : Mat m n) : Mat 1 n := least (without d (least d))
def third (d : Mat m n) : Mat 1 n := least (without (without d (least d)) (second d))

/-- The inverse distances of the sources up to the third least. -/
def weight3 (d : Mat m n) : Mat m n :=
  select (cmpf .ole d (rows m (third d))) (inverse d) (splat m n 0x00000000#32)

/-- One over the sum of the three inverse distances. -/
def scale3 (d : Mat m n) : Mat 1 n :=
  divf (splat 1 n 0x3F800000#32) (addf (addf (inverse (least d)) (inverse (second d))) (inverse (third d)))

/-- The features `x` of the sources, summed with the weights `w`. -/
def gathered (w : Mat m n) (x : Mat m c) : Mat n c :=
  matmul (crossDims m n c) none w x (constant (M2 n c) .f32 0x00000000#32)

/-- The features interpolated from the three nearest sources. -/
def interpolated3 (d : Mat m n) (x : Mat m c) : Mat n c :=
  mulf (gathered (weight3 d) x)
    (broadcastTo (M2 n c) (shapeCast (M2 n 1) (scale3 d) (cast_turn n)) (spread_col n c))

/-- Two matrices side by side. -/
abbrev beside {a b : ℕ} (x : Mat n a) (y : Mat n b) (h : a + b = c) : Mat n c :=
  concatenate (M2 n c) 1 [⟨M2 n a, x⟩, ⟨M2 n b, y⟩] (concat_two n a b c h)

/-- A dense layer. -/
def dense (x : Mat n k) (w : Mat k c) (b : Mat 1 c) : Mat n c :=
  addf (matmul (DotDims.plain n k c) none x w (constant (M2 n c) .f32 0x00000000#32))
    (rows n (shapeCast (M2 1 c) b (cast_same 1 c)))

/-- Everything below zero set to zero. -/
def relu (x : Mat n c) : Mat n c := maximumf x (splat n c 0x00000000#32)

/-- One batch: three levels of interpolation from the nearest sources, each followed by its dense layers. -/
def batchOut (x0 : Mat 1024 10) (p0 : Mat 1024 3) (x1 : Mat 256 128) (p1 : Mat 256 3) (x2 : Mat 64 256) (p2 : Mat 64 3)
    (x3 : Mat 16 1024) (p3 : Mat 16 3)
    (w31 : Mat 1280 256) (b31 : Mat 1 256) (w32 : Mat 256 256) (b32 : Mat 1 256)
    (w21 : Mat 384 256) (b21 : Mat 1 256) (w22 : Mat 256 128) (b22 : Mat 1 128)
    (w11 : Mat 138 128) (b11 : Mat 1 128) (w12 : Mat 128 128) (b12 : Mat 1 128) (w13 : Mat 128 128) (b13 : Mat 1 128)
    (l1 : Mat 128 128) (c1 : Mat 1 128) (l2 : Mat 128 3) (c2 : Mat 1 3) : Mat 1024 3 :=
  let h3 : Mat 64 256 := relu (dense (relu (dense
    (beside (gathered (weight1 (distances p2 p3)) x3) x2 (by rfl)) w31 b31)) w32 b32)
  let h2 : Mat 256 128 := relu (dense (relu (dense
    (beside (interpolated3 (distances p1 p2) h3) x1 (by rfl)) w21 b21)) w22 b22)
  let h1 : Mat 1024 128 := relu (dense (relu (dense (relu (dense
    (beside (interpolated3 (distances p0 p1) h2) x0 (by rfl)) w11 b11)) w12 b12)) w13 b13)
  dense (relu (dense h1 l1 c1)) l2 c2

end Cert.Cloud

end
-- ==== Proof.RefTerms.lean ====
/-
  What the reference computes, named step by step for any number `n` of target points and `m` of source points: the
  masked distances, the order by distance, the inverse distances, the interpolation and a dense layer. Distances and
  weights are held targets by sources.
-/
module

public import proofs.«01_k».proof.Proof.KernelTerms
public import Idealize.ShloMosaic.Lib.StableHlo

@[expose] public section

noncomputable section

namespace Cert.Cloud

open Idealize.ShloMosaic

/-- A vector of integer words, and a matrix of them. -/
abbrev Words (a : ℕ) : Type := IVec (M1 a) 32
abbrev Words2 (a b : ℕ) : Type := IVec (M2 a b) 32
/-- An `a × b × c` array of extended reals. -/
abbrev Cube (a b c : ℕ) : Type := FVec Ideal (M3 a b c) .f32

variable {n m c k : ℕ}

/-- The host's array that holds one float word everywhere. -/
abbrev fill (s : Shape) (w : BitVec 32) : FVec Ideal s .f32 := broadcastInDim s ![] (bc_scalar s) (constant (F := Ideal) M0 .f32 w)
/-- The host's matrix that holds one integer word everywhere. -/
abbrev fillWord (a b : ℕ) (w : BitVec 32) : Words2 a b := broadcastInDim (M2 a b) ![] (bc_scalar (M2 a b)) (constantI M0 32 w)

/-- The differences of the targets' and the sources' coordinates. -/
def apart (q : Mat n 3) (s : Mat m 3) : Cube n m 3 :=
  subf (broadcastInDim (M3 n m 3) ![0, 1, 2] (bc_mid n m 3) (broadcastInDim (M3 n 1 3) ![0, 2] (bc_mid1 n 3) q))
    (broadcastInDim (M3 n m 3) ![0, 1, 2] (bc_lead n m 3) (broadcastInDim (M3 1 m 3) ![1, 2] (bc_lead1 m 3) s))

/-- The squared distances, `10¹⁰` between points of different batches. -/
def masked (q : Mat n 3) (s : Mat m 3) (qb : Words n) (sb : Words m) : Mat n m :=
  select
    (cmpi .ne (broadcastInDim (M2 n m) ![0, 1] (bc_cols n m) (broadcastInDim (M2 n 1) ![0] (bc_col n) qb))
      (broadcastInDim (M2 n m) ![0, 1] (bc_rows n m) (broadcastInDim (M2 1 m) ![1] (bc_row m) sb)))
    (fill (M2 n m) 0x501502F9#32)
    (Host.reduceAdd (mulf (apart q s) (apart q s)) (constant M0 .f32 0x00000000#32) (hred_last n m 3) scalar_pos)

/-- The `k` nearest sources of each target: their negated distances and their numbers. -/
def ranked (k : ℕ) (h : k ≤ m) (d : Mat n m) : Mat n k × Words2 n k :=
  Host.topK (M2 n k) 1 (FloatOps.cmpfTotal .gt) (Host.negf d) (slice_cols n m k h)

/-- The inverses of the negated distances, kept away from zero. -/
def inverses (v : Mat n k) : Mat n k :=
  Host.divf (fill (M2 n k) 0x3F800000#32) (maximumf (fill (M2 n k) 0x24E69595#32) (Host.negf v))

/-- The row sums as a column. -/
def rowSums (w : Mat n k) : Mat n 1 :=
  broadcastInDim (M2 n 1) ![0] (bc_col n) (Host.reduceAdd w (constant M0 .f32 0x00000000#32) (hred_cols n k) scalar_pos)

/-- The weights over their sum. -/
def shares (w : Mat n k) : Mat n k := Host.divf w (broadcastInDim (M2 n k) ![0, 1] (bc_cols n k) (rowSums w))
/-- A single weight over itself. -/
def share (w : Mat n 1) : Mat n 1 := Host.divf w (rowSums w)

/-- Taking whole rows of an `m × c` matrix at an `n × k` table of row numbers. -/
abbrev TakesRows (m n k c : ℕ) : Prop := GatherDims.WF (M2 m c) (M3 n k 1) (M3 n k c) [2] [0] [] [0] [] 2 ![1, c]
/-- Its dimension numbers. -/
def takeDims (m n k c : ℕ) (wf : TakesRows m n k c) : GatherDims (M2 m c) (M3 n k 1) (M3 n k c) where
  offsetDims := [2]
  collapsedSliceDims := [0]
  operandBatchingDims := []
  startIndicesBatchingDims := []
  startIndexMap := [0]
  indexVectorDim := 2
  sliceSizes := ![1, c]
  wf := wf

/-- The rows of `x` at the numbers `i`; a negative number counts from the end. -/
def taken (wf : TakesRows m n k c) (x : Mat m c) (i : Words2 n k) : Cube n k c :=
  Host.gather (takeDims m n k c wf) x
    (broadcastInDim (M3 n k 1) ![0, 1] (bc_last1 n k)
      (select (cmpi .slt i (fillWord n k 0#32)) (addi i (fillWord n k (BitVec.ofNat 32 m))) i))

/-- The taken rows times their weights. -/
def weighted (g : Cube n k c) (w : Mat n k) : Cube n k c :=
  mulf g (broadcastInDim (M3 n k c) ![0, 1, 2] (bc_last n k c) (broadcastInDim (M3 n k 1) ![0, 1] (bc_last1 n k) w))

/-- … summed over the sources. -/
def summed (g : Cube n k c) : Mat n c :=
  Host.reduceAdd g (constant M0 .f32 0x00000000#32) (hred_mid n k c) scalar_pos

/-- The reference's dense layer. -/
def hostDense (x : Mat n k) (w : Mat k c) (b : Arr c) : Mat n c :=
  addf (Host.dotGeneral (DotDims.plain n k c) none x w)
    (broadcastInDim (M2 n c) ![0, 1] (bc_rows n c) (broadcastInDim (M2 1 c) ![1] (bc_row c) b))

/-- The reference's `max(x, 0)`. -/
def hostRelu (x : Mat n c) : Mat n c := maximumf x (fill (M2 n c) 0x00000000#32)

/-- The features interpolated from the nearest source. -/
def nearest1 (wf : TakesRows m n 1 c) (h : 1 ≤ m) (d : Mat n m) (x : Mat m c) : Mat n c :=
  summed (weighted (taken wf x (ranked 1 h d).2) (share (inverses (ranked 1 h d).1)))
/-- The features interpolated from the three nearest sources. -/
def nearest3 (wf : TakesRows m n 3 c) (h : 3 ≤ m) (d : Mat n m) (x : Mat m c) : Mat n c :=
  summed (weighted (taken wf x (ranked 3 h d).2) (shares (inverses (ranked 3 h d).1)))

theorem takes_1024 : TakesRows 256 1024 1 1024 := by decide
theorem takes_4096 : TakesRows 1024 4096 3 256 := by decide
theorem takes_16384 : TakesRows 4096 16384 3 128 := by decide

/-- The reference: three levels of interpolation, each followed by its dense layers. -/
def refOut (x0 : Mat 16384 10) (p0 : Mat 16384 3) (b0 : Words 16384) (x1 : Mat 4096 128) (p1 : Mat 4096 3) (b1 : Words 4096)
    (x2 : Mat 1024 256) (p2 : Mat 1024 3) (b2 : Words 1024) (x3 : Mat 256 1024) (p3 : Mat 256 3) (b3 : Words 256)
    (w31 : Mat 1280 256) (b31 : Arr 256) (w32 : Mat 256 256) (b32 : Arr 256)
    (w21 : Mat 384 256) (b21 : Arr 256) (w22 : Mat 256 128) (b22 : Arr 128)
    (w11 : Mat 138 128) (b11 : Arr 128) (w12 : Mat 128 128) (b12 : Arr 128) (w13 : Mat 128 128) (b13 : Arr 128)
    (l1 : Mat 128 128) (c1 : Arr 128) (l2 : Mat 128 3) (c2 : Arr 3) : Mat 16384 3 :=
  let h3 : Mat 1024 256 := hostRelu (hostDense (hostRelu (hostDense
    (beside (nearest1 takes_1024 (by decide) (masked p2 p3 b2 b3) x3) x2 (by rfl)) w31 b31)) w32 b32)
  let h2 : Mat 4096 128 := hostRelu (hostDense (hostRelu (hostDense
    (beside (nearest3 takes_4096 (by decide) (masked p1 p2 b1 b2) h3) x1 (by rfl)) w21 b21)) w22 b22)
  let h1 : Mat 16384 128 := hostRelu (hostDense (hostRelu (hostDense (hostRelu (hostDense
    (beside (nearest3 takes_16384 (by decide) (masked p0 p1 b0 b1) h2) x0 (by rfl)) w11 b11)) w12 b12)) w13 b13)
  hostDense (hostRelu (hostDense h1 l1 c1)) l2 c2

end Cert.Cloud

end
-- ==== Proof.RefRun.lean ====
/-
  The reference's run: it ends with `refOut` of its arguments in its result and with its arguments unchanged.
-/
module

public import proofs.«01_k».proof.Proof.Gen.ReferenceIdeal.Run
public import proofs.«01_k».proof.Proof.RefTerms

@[expose] public section

noncomputable section

namespace Cert.Cloud

open Idealize.ShloMosaic Idealize.ShloMosaic.TcCoe Idealize.SL.Sem Cert.ReferenceIdeal

/-- `refOut` of the arguments that a memory holds on one device. -/
def refOf (m : (ℓ : Loc nD τ sig) → Buf (Elt Ideal) ℓ) (c : Dev nD) : Mat 16384 3 :=
  refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))

set_option maxRecDepth 8192 in
set_option maxHeartbeats 2000000 in
/-- Every run of the reference ends with `refOf` in the result and with the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v144) = refOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  Value.run (F := Ideal) m ρ

end Cert.Cloud

end
-- ==== Proof.KernelRead.lean ====
/-
  The steps of `KernelTerms` read at an index, over the extended reals.
-/
module

public import proofs.«01_k».proof.Proof.KernelTerms
public import Idealize.ShloMosaic.Lib.Pointwise.SelectCore

@[expose] public section

noncomputable section

namespace Cert.Cloud

open Idealize.ShloMosaic hiding ix0 ix1 ix2 ix3 ix4 ix5
open Idealize.ShloMosaic.ValueIdx
open scoped BigOperators

/-! ## The constants -/

/-- The word of `+∞`. -/
theorem word_top : Ideal.ofBits .f32 0x7F800000#32 = ⊤ := by
  simp [Ideal.ofBits, Ideal.ieee]
/-- The word of zero. -/
theorem word_zero : Ideal.ofBits .f32 0x00000000#32 = 0 := by
  simp [Ideal.ofBits, Ideal.ieee]
/-- The word of one. -/
theorem word_one : Ideal.ofBits .f32 0x3F800000#32 = 1 := Ideal.ofBits_one_f32
/-- The word of minus two. -/
theorem word_neg_two : Ideal.ofBits .f32 0xC0000000#32 = ((-2 : ℝ) : EReal) := by
  simp [Ideal.ofBits, Ideal.ieee, -EReal.coe_mul, -EReal.coe_neg]; norm_num
/-- The bound that keeps a distance away from zero: a positive real. -/
theorem word_eps : ∃ e : ℝ, 0 < e ∧ Ideal.ofBits .f32 0x24E69595#32 = (e : EReal) := by
  refine ⟨_, ?_, by simp [Ideal.ofBits, Ideal.ieee, -EReal.coe_mul, -EReal.coe_neg]; rfl⟩
  norm_num
/-- The distance that the reference gives to another batch's sources. -/
abbrev far : EReal := Ideal.ofBits .f32 0x501502F9#32
theorem far_real : far = ((10000000000 : ℝ) : EReal) := by
  simp [far, Ideal.ofBits, Ideal.ieee, -EReal.coe_mul, -EReal.coe_neg]; norm_num
/-- What the kernel puts in place of a distance already taken. -/
abbrev away : EReal := Ideal.ofBits .f32 0x7149F2CA#32
theorem far_lt_away : far < away := by
  rw [far_real]
  simp only [away, Ideal.ofBits, Ideal.ieee]
  simp [-EReal.coe_mul, -EReal.coe_neg]
  norm_num

variable {n m c k : ℕ}

/-! ## Layout -/

theorem splat_apply (w : BitVec 32) (i : Fin n) (j : Fin m) : splat n m w (ix2 i j) = Ideal.ofBits .f32 w := rfl

/-- Three pieces of widths 3, 1 and 1 side by side. -/
theorem five_apply (x : Mat n 3) (y z : Mat n 1) (h : Shape.Concatenates [M2 n 3, M2 n 1, M2 n 1] (M2 n 5) 1) (i : Fin n) :
    (concatenate (M2 n 5) 1 [⟨M2 n 3, x⟩, ⟨M2 n 1, y⟩, ⟨M2 n 1, z⟩] h (ix2 i 0) = x (ix2 i 0)
      ∧ concatenate (M2 n 5) 1 [⟨M2 n 3, x⟩, ⟨M2 n 1, y⟩, ⟨M2 n 1, z⟩] h (ix2 i 1) = x (ix2 i 1)
      ∧ concatenate (M2 n 5) 1 [⟨M2 n 3, x⟩, ⟨M2 n 1, y⟩, ⟨M2 n 1, z⟩] h (ix2 i 2) = x (ix2 i 2))
    ∧ concatenate (M2 n 5) 1 [⟨M2 n 3, x⟩, ⟨M2 n 1, y⟩, ⟨M2 n 1, z⟩] h (ix2 i 3) = y (ix2 i 0)
    ∧ concatenate (M2 n 5) 1 [⟨M2 n 3, x⟩, ⟨M2 n 1, y⟩, ⟨M2 n 1, z⟩] h (ix2 i 4) = z (ix2 i 0) := by
  refine ⟨⟨congrArg x ?_, congrArg x ?_, congrArg x ?_⟩, congrArg y ?_, congrArg z ?_⟩ <;>
  · funext ax
    match ax with
    | ⟨0, _⟩ => rfl
    | ⟨1, _⟩ => rfl

/-- Two matrices side by side, read at a column: the left one's below its width, else the right one's. -/
theorem beside_apply {a b : ℕ} (x : Mat n a) (y : Mat n b) (h : a + b = c) (i : Fin n) (j : Fin c) :
    beside x y h (ix2 i j) = if hj : j.val < a then x (ix2 i ⟨j.val, hj⟩) else y (ix2 i ⟨j.val - a, by omega⟩) := by
  unfold beside
  rw [concatenate_pair_apply]
  show (if hj : j.val < a then _ else _) = _
  split
  · refine congrArg x (funext fun ax => ?_)
    match ax with
    | ⟨0, _⟩ => rfl
    | ⟨1, _⟩ => rfl
  · refine congrArg y (funext fun ax => ?_)
    match ax with
    | ⟨0, _⟩ => rfl
    | ⟨1, _⟩ => rfl

theorem rows_apply (v : Mat 1 n) (a : Fin m) (i : Fin n) : rows m v (ix2 a i) = v (ix2 0 i) :=
  broadcastTo_1b_ab_apply v _ a i

/-- A column repeated. -/
theorem cols_apply (v : Mat n 1) (i : Fin n) (j : Fin c) : broadcastTo (M2 n c) v (spread_col n c) (ix2 i j) = v (ix2 i 0) := by
  refine broadcastTo_apply v _ (ix2 i j) (ix2 i 0) fun ax => ?_
  match ax with
  | ⟨0, _⟩ =>
    show i.val = if n = 1 then 0 else i.val
    split
    · have := i.isLt; omega
    · rfl
  | ⟨1, _⟩ => rfl

/-- A row turned into a column. -/
theorem turn_apply (v : Mat 1 n) (i : Fin n) : shapeCast (M2 n 1) v (cast_turn n) (ix2 i 0) = v (ix2 0 i) :=
  shapeCast_apply v _ _ _ (by
    rw [Shape.rowMajor_val_two, Shape.rowMajor_val_two]
    show 0 * n + i.val = i.val * 1 + 0
    omega)

/-! ## Reductions -/

theorem lift_col (i : Fin n) (j : Fin m) : (red_cols n m).lift (ix1 i) j = ix2 i j := by
  funext ax; match ax with | ⟨0, _⟩ => rfl | ⟨1, _⟩ => rfl
theorem lift_row (i : Fin n) (j : Fin m) : (red_rows m n).lift (ix1 i) j = ix2 j i := by
  funext ax; match ax with | ⟨0, _⟩ => rfl | ⟨1, _⟩ => rfl

theorem lengths_apply (p : Mat n 3) (i : Fin n) :
    lengths p (ix2 i 0) = ∑ e : Fin 3, p (ix2 i e) * p (ix2 i e) := by
  unfold lengths
  refine (shapeCast_a_a1_apply ..).trans ((Ideal.multiReduction_add_single ..).trans ?_)
  exact Finset.sum_congr rfl fun e _ => congrArg (mulf p p) (lift_col i e)

theorem colSum_apply (d : Mat m n) (i : Fin n) : colSum d (ix2 0 i) = ∑ a : Fin m, d (ix2 a i) := by
  unfold colSum
  refine (shapeCast_a_1a_apply ..).trans ((Ideal.multiReduction_add_single ..).trans ?_)
  exact Finset.sum_congr rfl fun e _ => congrArg d (lift_row i e)

instance : Std.Commutative (FloatOps.minimumf (F := Ideal) (φ := .f32)) := ⟨fun a b => min_comm (α := EReal) a b⟩
instance : Std.Associative (FloatOps.minimumf (F := Ideal) (φ := .f32)) := ⟨fun a b c => min_assoc (α := EReal) a b c⟩

/-- The least of a column is its infimum. -/
theorem least_apply (d : Mat m n) (i : Fin n) : least d (ix2 0 i) = Finset.univ.inf fun a : Fin m => (d (ix2 a i) : EReal) := by
  unfold least
  refine (shapeCast_a_1a_apply ..).trans ((multiReduction_minimumf_eq_fold ..).trans ?_)
  rw [(red_rows m n).fold_filter_drop_single (FloatOps.minimumf (F := Ideal) (φ := .f32))]
  have e : (d ∘ (red_rows m n).lift (ix1 i)) = fun a : Fin m => d (ix2 a i) := funext fun a => congrArg d (lift_row i a)
  rw [e]
  show Finset.fold _ (Ideal.ofBits .f32 0x7F800000#32) _ _ = _
  rw [word_top]
  rfl

/-! ## Products -/

/-- The product along both operands' rows, read at an index. -/
theorem cross_apply (x : Mat k n) (y : Mat k c) (i : Fin n) (j : Fin c) :
    gathered x y (ix2 i j) = ∑ a : Fin k, x (ix2 a i) * y (ix2 a j) := by
  unfold gathered
  show FloatOps.matmul (crossDims k n c) none x y _ (ix2 i j) = _
  rw [Ideal.matmul_apply, ← Equiv.sum_comp (contrEquiv1 (crossDims k n c) k rfl rfl).symm]
  rw [show constant (F := Ideal) (M2 n c) .f32 0x00000000#32 (ix2 i j) = (0 : EReal) from word_zero, zero_add]
  refine Finset.sum_congr rfl fun a _ => ?_
  have ha := contrEquiv1_symm_val (crossDims k n c) k rfl rfl a
  have el : (crossDims k n c).lhsIdx (ix2 i j) ((contrEquiv1 (crossDims k n c) k rfl rfl).symm a) = ix2 a i := by
    funext ax; apply Fin.ext
    match ax with
    | ⟨0, _⟩ => exact ha
    | ⟨1, _⟩ => rfl
  have er : (crossDims k n c).rhsIdx (ix2 i j) ((contrEquiv1 (crossDims k n c) k rfl rfl).symm a) = ix2 a j := by
    funext ax; apply Fin.ext
    match ax with
    | ⟨0, _⟩ => exact ha
    | ⟨1, _⟩ => rfl
  rw [el, er]

/-- The kernel's distance, as the product of the two rows of five. -/
theorem distances_apply (q : Mat n 3) (s : Mat m 3) (a : Fin m) (i : Fin n) :
    distances q s (ix2 a i)
      = (((-2 : ℝ) : EReal) * s (ix2 a 0)) * q (ix2 i 0) + (((-2 : ℝ) : EReal) * s (ix2 a 1)) * q (ix2 i 1)
        + (((-2 : ℝ) : EReal) * s (ix2 a 2)) * q (ix2 i 2)
        + (∑ e : Fin 3, s (ix2 a e) * s (ix2 a e)) * 1 + 1 * ∑ e : Fin 3, q (ix2 i e) * q (ix2 i e) := by
  unfold distances
  show FloatOps.matmul (DotDims.transposedRhs m 5 n) (some .fp32) _ _ _ (ix2 a i) = _
  rw [Ideal.matmul_transposedRhs_apply]
  rw [show constant (F := Ideal) (M2 m n) .f32 0x00000000#32 (ix2 a i) = (0 : EReal) from word_zero, zero_add]
  rw [Fin.sum_univ_five]
  obtain ⟨⟨l0, l1, l2⟩, l3, l4⟩ := five_apply (mulf (splat m 3 0xC0000000#32) s) (lengths s) (splat m 1 0x3F800000#32) (concat_five m) a
  obtain ⟨⟨r0, r1, r2⟩, r3, r4⟩ := five_apply q (splat n 1 0x3F800000#32) (lengths q) (concat_five n) i
  rw [l0, l1, l2, l3, l4, r0, r1, r2, r3, r4]
  rw [lengths_apply, lengths_apply, splat_apply, splat_apply, word_one]
  simp only [mulf_apply, splat_apply, word_neg_two]

/-! ## Dense layers -/

theorem dense_apply (x : Mat n k) (w : Mat k c) (b : Mat 1 c) (i : Fin n) (j : Fin c) :
    dense x w b (ix2 i j) = (∑ a : Fin k, x (ix2 i a) * w (ix2 a j)) + b (ix2 0 j) := by
  unfold dense
  rw [addf_apply, rows_apply]
  show FloatOps.matmul (DotDims.plain n k c) none x w _ (ix2 i j) + _ = _
  rw [Ideal.matmul_plain_apply]
  rw [show constant (F := Ideal) (M2 n c) .f32 0x00000000#32 (ix2 i j) = (0 : EReal) from word_zero, zero_add]
  rw [shapeCast_apply b (cast_same 1 c) _ _ rfl]

theorem relu_apply (x : Mat n c) (i : Fin n) (j : Fin c) : relu x (ix2 i j) = max (x (ix2 i j)) 0 := by
  unfold relu
  rw [maximumf_apply, splat_apply, word_zero]

end Cert.Cloud

end
-- ==== Proof.RefRead.lean ====
/-
  The steps of `RefTerms` read at an index, over the extended reals.
-/
module

public import proofs.«01_k».proof.Proof.RefTerms
public import proofs.«01_k».proof.Proof.KernelRead
public import Idealize.ShloMosaic.Lib.StackMember
public import Idealize.ShloMosaic.Lib.IdealHost
public import Idealize.ShloMosaic.Lib.Pointwise.Reduce
public import Idealize.ShloMosaic.Lib.Pipeline.Value

@[expose] public section

noncomputable section

namespace Cert.Cloud

open Idealize.ShloMosaic hiding ix0 ix1 ix2 ix3 ix4 ix5
open Idealize.ShloMosaic.ValueIdx
open scoped BigOperators

variable {n m c k : ℕ}

/-- The bound below a distance. -/
abbrev eps : EReal := Ideal.ofBits .f32 0x24E69595#32

/-- A coordinate read through an axis that may have one entry. -/
theorem coord_one {a : ℕ} (i : Fin a) : i.val = if a = 1 then 0 else i.val := by
  split
  · have := i.isLt; omega
  · rfl

/-! ## Layout -/

/-- A vector laid along the rows of a matrix, then repeated. -/
theorem down_apply {α : Type} (v : (M1 n).Idx → α) (i : Fin n) (j : Fin m) :
    broadcastInDim (M2 n m) ![0, 1] (bc_cols n m) (broadcastInDim (M2 n 1) ![0] (bc_col n) v) (ix2 i j) = v (ix1 i) :=
  (broadcastInDim_apply _ _ _ _ (ix2 i 0) fun ax => by match ax with | ⟨0, _⟩ => exact coord_one i | ⟨1, _⟩ => rfl).trans
    (broadcastInDim_apply _ _ _ _ (ix1 i) fun ax => by match ax with | ⟨0, _⟩ => exact coord_one i)

/-- A vector laid along the columns of a matrix, then repeated. -/
theorem along_apply {α : Type} (v : (M1 m).Idx → α) (i : Fin n) (j : Fin m) :
    broadcastInDim (M2 n m) ![0, 1] (bc_rows n m) (broadcastInDim (M2 1 m) ![1] (bc_row m) v) (ix2 i j) = v (ix1 j) :=
  (broadcastInDim_apply _ _ _ _ (ix2 0 j) fun ax => by match ax with | ⟨0, _⟩ => rfl | ⟨1, _⟩ => exact coord_one j).trans
    (broadcastInDim_apply _ _ _ _ (ix1 j) fun ax => by match ax with | ⟨0, _⟩ => exact coord_one j)

theorem fill_apply (s : Shape) (w : BitVec 32) (j : s.Idx) : fill s w j = Ideal.ofBits .f32 w := rfl

/-! ## Distances -/

theorem apart_apply (q : Mat n 3) (s : Mat m 3) (i : Fin n) (j : Fin m) (e : Fin 3) :
    apart q s (ix3 i j e) = q (ix2 i e) - s (ix2 j e) := by
  unfold apart
  rw [subf_apply]
  congr 1
  · exact (broadcastInDim_apply _ _ _ _ (ix3 i 0 e) fun ax => by
      match ax with | ⟨0, _⟩ => exact coord_one i | ⟨1, _⟩ => rfl | ⟨2, _⟩ => rfl).trans
      (broadcastInDim_apply _ _ _ _ (ix2 i e) fun ax => by match ax with | ⟨0, _⟩ => exact coord_one i | ⟨1, _⟩ => rfl)
  · exact (broadcastInDim_apply _ _ _ _ (ix3 0 j e) fun ax => by
      match ax with | ⟨0, _⟩ => rfl | ⟨1, _⟩ => exact coord_one j | ⟨2, _⟩ => rfl).trans
      (broadcastInDim_apply _ _ _ _ (ix2 j e) fun ax => by match ax with | ⟨0, _⟩ => exact coord_one j | ⟨1, _⟩ => rfl)

/-- A host sum over the last axis of a rank-3 array. -/
theorem sum_last (x : Cube n m c) (i : Fin n) (j : Fin m) :
    Host.reduceAdd x (constant M0 .f32 0x00000000#32) (hred_last n m c) scalar_pos (ix2 i j) = ∑ e : Fin c, x (ix3 i j e) :=
  (hostReduceAdd_apply ..).trans ((Ideal.hostReduceAdd_r3_a2 ..).trans (by
    show Ideal.ofBits .f32 0x00000000#32 + _ = _
    rw [word_zero, zero_add]; rfl))
/-- A host sum over the middle axis. -/
theorem sum_mid (x : Cube n m c) (i : Fin n) (e : Fin c) :
    Host.reduceAdd x (constant M0 .f32 0x00000000#32) (hred_mid n m c) scalar_pos (ix2 i e) = ∑ j : Fin m, x (ix3 i j e) :=
  (hostReduceAdd_apply ..).trans ((Ideal.hostReduceAdd_r3_a1 ..).trans (by
    show Ideal.ofBits .f32 0x00000000#32 + _ = _
    rw [word_zero, zero_add]; rfl))
/-- A host sum over the columns of a matrix. -/
theorem sum_cols (x : Mat n m) (i : Fin n) :
    Host.reduceAdd x (constant M0 .f32 0x00000000#32) (hred_cols n m) scalar_pos (ix1 i) = ∑ j : Fin m, x (ix2 i j) :=
  (hostReduceAdd_apply ..).trans ((Ideal.hostReduceAdd_r2_a1 ..).trans (by
    show Ideal.ofBits .f32 0x00000000#32 + _ = _
    rw [word_zero, zero_add]; rfl))

theorem masked_apply (q : Mat n 3) (s : Mat m 3) (qb : Words n) (sb : Words m) (i : Fin n) (j : Fin m) :
    masked q s qb sb (ix2 i j) = if qb (ix1 i) = sb (ix1 j)
      then ∑ e : Fin 3, (q (ix2 i e) - s (ix2 j e)) * (q (ix2 i e) - s (ix2 j e)) else far := by
  unfold masked
  rw [select_apply, cmpi_apply, down_apply, along_apply, sum_last]
  simp only [mulf_apply, apart_apply]
  by_cases h : qb (ix1 i) = sb (ix1 j)
  · rw [if_pos h, h]
    simp [IntOp.cmpi, Scalar.select]
  · rw [if_neg h]
    have hb : (qb (ix1 i) != sb (ix1 j)) = true := by simpa using h
    simp [IntOp.cmpi, Scalar.select, hb, fill_apply]

/-! ## Weights -/

theorem inverses_apply (v : Mat n k) (i : Fin n) (j : Fin k) :
    inverses v (ix2 i j) = Ideal.div 1 (max eps (-(v (ix2 i j)))) := by
  show Ideal.div (fill (M2 n k) 0x3F800000#32 (ix2 i j)) (max (fill (M2 n k) 0x24E69595#32 (ix2 i j)) (-(v (ix2 i j)))) = _
  rw [fill_apply, fill_apply, word_one]

theorem rowSums_apply (w : Mat n k) (i : Fin n) : rowSums w (ix2 i 0) = ∑ j : Fin k, w (ix2 i j) :=
  (broadcastInDim_apply _ _ _ _ (ix1 i) fun ax => by match ax with | ⟨0, _⟩ => exact coord_one i).trans (sum_cols w i)

theorem shares_apply (w : Mat n k) (i : Fin n) (j : Fin k) :
    shares w (ix2 i j) = Ideal.div (w (ix2 i j)) (∑ a : Fin k, w (ix2 i a)) := by
  show Ideal.div (w (ix2 i j)) (broadcastInDim (M2 n k) ![0, 1] (bc_cols n k) (rowSums w) (ix2 i j)) = _
  rw [broadcastInDim_apply _ _ _ (ix2 i j) (ix2 i 0) fun ax => by match ax with | ⟨0, _⟩ => exact coord_one i | ⟨1, _⟩ => rfl,
    rowSums_apply]

theorem share_apply (w : Mat n 1) (i : Fin n) : share w (ix2 i 0) = Ideal.div (w (ix2 i 0)) (w (ix2 i 0)) := by
  show Ideal.div (w (ix2 i 0)) (rowSums w (ix2 i 0)) = _
  rw [rowSums_apply, Fin.sum_univ_one]

/-! ## Taking rows -/

/-- Where the table holds the word of the number `a`, the taken row is the row `a`. -/
theorem taken_apply (hm : m < 2 ^ 31) (wf : TakesRows m n k c) (x : Mat m c) (t : Words2 n k) (i : Fin n) (j : Fin k) (e : Fin c)
    (a : Fin m) (ha : t (ix2 i j) = BitVec.ofNat 32 a.val) : taken wf x t (ix3 i j e) = x (ix2 a e) := by
  unfold taken Host.gather
  refine congrArg x ?_
  have hint : (BitVec.ofNat 32 a.val).toInt = a.val := by
    have := a.isLt
    have hn : (BitVec.ofNat 32 a.val).toNat = a.val := by rw [BitVec.toNat_ofNat]; exact Nat.mod_eq_of_lt (by omega)
    rw [BitVec.toInt_eq_toNat_of_lt (by rw [hn]; omega), hn]
  have hread : (broadcastInDim (M3 n k 1) ![0, 1] (bc_last1 n k)
      (select (cmpi .slt t (fillWord n k 0#32)) (addi t (fillWord n k (BitVec.ofNat 32 m))) t)) (ix3 i j 0) = BitVec.ofNat 32 a.val := by
    rw [broadcastInDim_apply _ _ _ (ix3 i j 0) (ix2 i j) fun ax => by
      match ax with | ⟨0, _⟩ => exact coord_one i | ⟨1, _⟩ => exact coord_one j]
    rw [select_apply, cmpi_apply, ha]
    have : IntOp.cmpi .slt (BitVec.ofNat 32 a.val) (fillWord n k 0#32 (ix2 i j)) = 0#1 := by
      show BitVec.ofBool (BitVec.slt (BitVec.ofNat 32 a.val) 0#32) = _
      rw [show BitVec.slt (BitVec.ofNat 32 a.val) 0#32 = false by
        unfold BitVec.slt; rw [hint]; simp]
      rfl
    rw [this, select_zero]
  generalize (broadcastInDim (M3 n k 1) ![0, 1] (bc_last1 n k)
    (select (cmpi .slt t (fillWord n k 0#32)) (addi t (fillWord n k (BitVec.ofNat 32 m))) t)) = idx at hread ⊢
  funext ax
  refine Fin.ext ?_
  show (takeDims m n k c wf).start (ix3 i j e) idx ax + (takeDims m n k c wf).batchCoord (ix3 i j e) ax
      + (takeDims m n k c wf).offCoord (ix3 i j e) ax = _
  rw [GatherDims.batchCoord_eq_zero _ _ _ (fun h => by simp [takeDims] at h)]
  have h01 : ax = 0 ∨ ax = 1 := by
    match ax with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeDims m n k c wf).startIndexMap from List.mem_singleton.mpr rfl)]
    have hsi : (takeDims m n k c wf).siIdx (ix3 i j e) ⟨List.idxOf (0 : Fin 2) (takeDims m n k c wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hread, hint]
    show min (a.val : ℤ).toNat (m - 1) = a.val
    have := a.isLt
    simp; omega
  · have hs : (takeDims m n k c wf).start (ix3 i j e) idx (1 : Fin 2) = 0 := by
      unfold GatherDims.start
      rw [dif_neg (show (1 : Fin 2) ∉ (takeDims m n k c wf).startIndexMap from by simp [takeDims])]
    rw [hs]
    simp only [Nat.zero_add, Nat.add_zero]
    unfold GatherDims.offCoord
    rw [dif_pos (show (1 : Fin 2) ∈ (takeDims m n k c wf).sKept from
      (GatherDims.mem_sKept _ _).mpr ⟨by simp [takeDims], by simp [takeDims]⟩)]
    rfl

theorem summed_apply (g : Cube n k c) (w : Mat n k) (i : Fin n) (e : Fin c) :
    summed (weighted g w) (ix2 i e) = ∑ j : Fin k, g (ix3 i j e) * w (ix2 i j) := by
  unfold summed weighted
  rw [sum_mid]
  refine Finset.sum_congr rfl fun j _ => ?_
  rw [mulf_apply]
  congr 1
  exact (broadcastInDim_apply _ _ _ _ (ix3 i j 0) fun ax => by
      match ax with | ⟨0, _⟩ => exact coord_one i | ⟨1, _⟩ => exact coord_one j | ⟨2, _⟩ => rfl).trans
      (broadcastInDim_apply _ _ _ _ (ix2 i j) fun ax => by match ax with | ⟨0, _⟩ => exact coord_one i | ⟨1, _⟩ => exact coord_one j)

/-! ## Dense layers -/

theorem hostDense_apply (x : Mat n k) (w : Mat k c) (b : Arr c) (i : Fin n) (j : Fin c) :
    hostDense x w b (ix2 i j) = (∑ a : Fin k, x (ix2 i a) * w (ix2 a j)) + b (ix1 j) := by
  unfold hostDense
  rw [addf_apply, along_apply, StackMember.dotGeneral_plain_apply]

theorem hostRelu_apply (x : Mat n c) (i : Fin n) (j : Fin c) : hostRelu x (ix2 i j) = max (x (ix2 i j)) 0 := by
  unfold hostRelu
  rw [maximumf_apply, fill_apply, word_zero]

end Cert.Cloud

end
-- ==== Proof.Nearest.lean ====
/-
  The arithmetic of the extended reals behind the two interpolations: the squared distance expanded, the least entries of
  a column, and weights that vanish away from the chosen sources.
-/
module

public import proofs.«01_k».proof.Proof.RefRead

@[expose] public section

noncomputable section

namespace Cert.Cloud

open Idealize.ShloMosaic hiding ix0 ix1 ix2 ix3 ix4 ix5
open Idealize.ShloMosaic.ValueIdx
open scoped BigOperators

variable {n m c k : ℕ}

/-! ## Distances -/

/-- `-2 s·q + |s|² + |q|² = |q - s|²` for real points. -/
theorem expanded (q s : Fin 3 → ℝ) :
    (((-2 : ℝ) : EReal) * (s 0 : EReal)) * (q 0 : EReal) + (((-2 : ℝ) : EReal) * (s 1 : EReal)) * (q 1 : EReal)
        + (((-2 : ℝ) : EReal) * (s 2 : EReal)) * (q 2 : EReal)
        + (∑ e : Fin 3, (s e : EReal) * (s e : EReal)) * 1 + 1 * ∑ e : Fin 3, (q e : EReal) * (q e : EReal)
      = ∑ e : Fin 3, ((q e : EReal) - (s e : EReal)) * ((q e : EReal) - (s e : EReal)) := by
  simp only [Fin.sum_univ_three, mul_one, one_mul]
  norm_cast
  rw [Int.cast_negSucc]
  push_cast
  ring

theorem square_nonneg (x : EReal) : 0 ≤ x * x := by
  induction x with
  | bot => simp
  | top => simp
  | coe r => norm_cast; exact mul_self_nonneg r

/-- A point at a finite squared distance from a real point is real. -/
theorem real_of_near (q : Fin 3 → EReal) (s : Fin 3 → ℝ)
    (h : ∑ e : Fin 3, (q e - (s e : EReal)) * (q e - (s e : EReal)) < ⊤) : ∃ r : Fin 3 → ℝ, ∀ e, q e = (r e : EReal) := by
  refine ⟨fun e => (q e).toReal, fun e => ?_⟩
  have h1 := (Finset.single_le_sum (f := fun e => (q e - (s e : EReal)) * (q e - (s e : EReal)))
    (fun e _ => square_nonneg _) (Finset.mem_univ e)).trans_lt h
  rw [EReal.coe_toReal]
  · rintro ht
    simp [ht] at h1
  · rintro ht
    simp [ht] at h1

/-! ## The least entries of a column -/

theorem inf_eq {f : Fin m → EReal} (p : Fin m) (h : ∀ a, f p ≤ f a) : Finset.univ.inf f = f p :=
  le_antisymm (Finset.inf_le (Finset.mem_univ p)) (Finset.le_inf fun a _ => h a)

theorem word_le (x y : EReal) : FloatOps.cmpf (F := Ideal) (φ := .f32) .ole x y = if x ≤ y then 1#1 else 0#1 := by
  show BitVec.ofBool (decide (x ≤ y)) = _
  by_cases h : x ≤ y <;> simp [h]

theorem without_apply (d : Mat m n) (t : Mat 1 n) (a : Fin m) (i : Fin n) :
    without d t (ix2 a i) = if (d (ix2 a i) : EReal) ≤ t (ix2 0 i) then away else d (ix2 a i) := by
  unfold without
  rw [select_apply, cmpf_apply, rows_apply, word_le]
  split <;> rfl

theorem inverse_apply (d : Mat m n) (a : Fin m) (i : Fin n) : inverse d (ix2 a i) = Ideal.div 1 (max (d (ix2 a i)) eps) := by
  show Ideal.div (Ideal.ofBits .f32 0x3F800000#32) _ = _
  rw [word_one]; rfl

/-- Three entries of a column, ascending, every other one greater. -/
structure Three (e : Fin m → EReal) (p0 p1 p2 : Fin m) : Prop where
  h01 : e p0 < e p1
  h12 : e p1 < e p2
  rest : ∀ a, a ≠ p0 → a ≠ p1 → a ≠ p2 → e p2 < e a

namespace Three

variable {d : Mat m n} {i : Fin n} {p0 p1 p2 : Fin m}

theorem first (h : Three (fun a => d (ix2 a i)) p0 p1 p2) : least d (ix2 0 i) = d (ix2 p0 i) := by
  rw [least_apply]
  refine inf_eq p0 fun a => ?_
  by_cases h0 : a = p0
  · rw [h0]
  by_cases h1 : a = p1
  · rw [h1]; exact h.h01.le
  by_cases h2 : a = p2
  · rw [h2]; exact (h.h01.trans h.h12).le
  exact (h.h01.trans (h.h12.trans (h.rest a h0 h1 h2))).le

/-- Without the least entry. -/
theorem rest1 (h : Three (fun a => d (ix2 a i)) p0 p1 p2) (a : Fin m) :
    without d (least d) (ix2 a i) = if a = p0 then away else d (ix2 a i) := by
  rw [without_apply, h.first]
  by_cases h0 : a = p0
  · rw [h0, if_pos (le_refl _), if_pos rfl]
  rw [if_neg h0, if_neg]
  rw [not_le]
  by_cases h1 : a = p1
  · rw [h1]; exact h.h01
  by_cases h2 : a = p2
  · rw [h2]; exact h.h01.trans h.h12
  exact h.h01.trans (h.h12.trans (h.rest a h0 h1 h2))

theorem ne01 (h : Three (fun a => d (ix2 a i)) p0 p1 p2) : p1 ≠ p0 := fun e => by have := h.h01; rw [e] at this; exact lt_irrefl _ this
theorem ne02 (h : Three (fun a => d (ix2 a i)) p0 p1 p2) : p2 ≠ p0 := fun e => by
  have := h.h01.trans h.h12; rw [e] at this; exact lt_irrefl _ this
theorem ne12 (h : Three (fun a => d (ix2 a i)) p0 p1 p2) : p2 ≠ p1 := fun e => by have := h.h12; rw [e] at this; exact lt_irrefl _ this

theorem second (h : Three (fun a => d (ix2 a i)) p0 p1 p2) (hb : (d (ix2 p2 i) : EReal) < away) :
    Cert.Cloud.second d (ix2 0 i) = d (ix2 p1 i) := by
  unfold Cert.Cloud.second
  rw [least_apply, inf_eq p1]
  · rw [h.rest1, if_neg h.ne01]
  intro a
  rw [h.rest1, h.rest1, if_neg h.ne01]
  by_cases h0 : a = p0
  · rw [if_pos h0]; exact (h.h12.trans hb).le
  rw [if_neg h0]
  by_cases h1 : a = p1
  · rw [h1]
  by_cases h2 : a = p2
  · rw [h2]; exact h.h12.le
  exact (h.h12.trans (h.rest a h0 h1 h2)).le

/-- Without the two least entries. -/
theorem rest2 (h : Three (fun a => d (ix2 a i)) p0 p1 p2) (hb : (d (ix2 p2 i) : EReal) < away) (a : Fin m) :
    without (without d (least d)) (Cert.Cloud.second d) (ix2 a i) = if a = p0 ∨ a = p1 then away else d (ix2 a i) := by
  rw [without_apply, h.second hb, h.rest1]
  by_cases h0 : a = p0
  · rw [if_pos h0, if_pos (Or.inl h0), if_neg (not_le.mpr (h.h12.trans hb))]
  rw [if_neg h0]
  by_cases h1 : a = p1
  · rw [if_pos (Or.inr h1), h1, if_pos (le_refl _)]
  rw [if_neg (not_or.mpr ⟨h0, h1⟩), if_neg]
  rw [not_le]
  by_cases h2 : a = p2
  · rw [h2]; exact h.h12
  exact h.h12.trans (h.rest a h0 h1 h2)

theorem third (h : Three (fun a => d (ix2 a i)) p0 p1 p2) (hb : (d (ix2 p2 i) : EReal) < away) :
    Cert.Cloud.third d (ix2 0 i) = d (ix2 p2 i) := by
  unfold Cert.Cloud.third
  have hn : ¬(p2 = p0 ∨ p2 = p1) := not_or.mpr ⟨h.ne02, h.ne12⟩
  rw [least_apply, inf_eq p2]
  · rw [h.rest2 hb, if_neg hn]
  intro a
  rw [h.rest2 hb, h.rest2 hb, if_neg hn]
  by_cases h0 : a = p0 ∨ a = p1
  · rw [if_pos h0]; exact hb.le
  rw [if_neg h0]
  by_cases h2 : a = p2
  · rw [h2]
  exact (h.rest a (fun e => h0 (Or.inl e)) (fun e => h0 (Or.inr e)) h2).le

/-- The kernel's weights: the inverse distances at the three nearest sources, zero elsewhere. -/
theorem weight (h : Three (fun a => d (ix2 a i)) p0 p1 p2) (hb : (d (ix2 p2 i) : EReal) < away) (a : Fin m) :
    weight3 d (ix2 a i) = if a = p0 ∨ a = p1 ∨ a = p2 then Ideal.div 1 (max (d (ix2 a i)) eps) else 0 := by
  unfold weight3
  rw [select_apply, cmpf_apply, rows_apply, word_le, h.third hb, inverse_apply, splat_apply, word_zero]
  by_cases h0 : a = p0
  · rw [if_pos (Or.inl h0), h0, if_pos (h.h01.trans h.h12).le]; rfl
  by_cases h1 : a = p1
  · rw [if_pos (Or.inr (Or.inl h1)), h1, if_pos h.h12.le]; rfl
  by_cases h2 : a = p2
  · rw [if_pos (Or.inr (Or.inr h2)), h2, if_pos (le_refl _)]; rfl
  rw [if_neg (not_le.mpr (h.rest a h0 h1 h2)), if_neg (by tauto)]; rfl

/-- The kernel's sum over all sources is the sum over the three nearest. -/
theorem gathers (h : Three (fun a => d (ix2 a i)) p0 p1 p2) (hb : (d (ix2 p2 i) : EReal) < away) (x : Mat m c) (e : Fin c) :
    gathered (weight3 d) x (ix2 i e)
      = Ideal.div 1 (max (d (ix2 p0 i)) eps) * x (ix2 p0 e) + Ideal.div 1 (max (d (ix2 p1 i)) eps) * x (ix2 p1 e)
        + Ideal.div 1 (max (d (ix2 p2 i)) eps) * x (ix2 p2 e) := by
  rw [cross_apply]
  have hterm : ∀ a : Fin m, (weight3 d (ix2 a i) * x (ix2 a e) : EReal)
      = (if a = p0 then Ideal.div 1 (max (d (ix2 a i)) eps) * x (ix2 a e) else 0)
        + (if a = p1 then Ideal.div 1 (max (d (ix2 a i)) eps) * x (ix2 a e) else 0)
        + (if a = p2 then Ideal.div 1 (max (d (ix2 a i)) eps) * x (ix2 a e) else 0) := fun a => by
    rw [h.weight hb]
    by_cases h0 : a = p0
    · subst h0; simp [h.ne01.symm, h.ne02.symm]
    by_cases h1 : a = p1
    · subst h1; simp [h0, h.ne12.symm]
    by_cases h2 : a = p2
    · subst h2; simp [h0, h1]
    simp [h0, h1, h2]
  rw [Finset.sum_congr rfl fun a _ => hterm a, Finset.sum_add_distrib, Finset.sum_add_distrib]
  simp only [Finset.sum_ite_eq', Finset.mem_univ, if_true]

end Three

/-! ## Weights -/

/-- The inverse of a distance below `+∞`, kept away from zero, is a positive real. -/
theorem inverse_real (v : EReal) (h : v < ⊤) : ∃ r : ℝ, 0 < r ∧ Ideal.div 1 (max v eps) = (r : EReal) := by
  obtain ⟨e, he, hw⟩ := word_eps
  have hm : ∃ t : ℝ, 0 < t ∧ max v eps = (t : EReal) := by
    rw [show eps = (e : EReal) from hw]
    induction v with
    | bot => exact ⟨e, he, by simp⟩
    | top => exact absurd h (lt_irrefl _)
    | coe r => exact ⟨max r e, lt_max_of_lt_right he, (EReal.coe_strictMono.monotone.map_max (a := r) (b := e)).symm⟩
  obtain ⟨t, ht, e'⟩ := hm
  refine ⟨1 / t, by positivity, ?_⟩
  rw [e', Ideal.div_coe ht.ne', one_mul]

/-- A weighted sum scaled by the inverse of the weights' sum is the sum with the scaled weights. -/
theorem scaled_sum {w0 w1 w2 : ℝ} (h0 : 0 < w0) (h1 : 0 < w1) (h2 : 0 < w2) (x0 x1 x2 : EReal) :
    ((w0 : EReal) * x0 + w1 * x1 + w2 * x2) * Ideal.div 1 ((w0 : EReal) + w1 + w2)
      = x0 * Ideal.div w0 ((w0 : EReal) + w1 + w2) + x1 * Ideal.div w1 ((w0 : EReal) + w1 + w2)
        + x2 * Ideal.div w2 ((w0 : EReal) + w1 + w2) := by
  have hS : ((w0 : EReal) + w1 + w2) = ((w0 + w1 + w2 : ℝ) : EReal) := by norm_cast
  have hp : 0 < w0 + w1 + w2 := by positivity
  rw [hS, Ideal.div_coe hp.ne', Ideal.div_coe hp.ne', Ideal.div_coe hp.ne', Ideal.div_coe hp.ne', one_mul]
  have hr : (0 : EReal) ≤ ((1 / (w0 + w1 + w2) : ℝ) : EReal) := by
    have : 0 ≤ 1 / (w0 + w1 + w2) := by positivity
    exact_mod_cast this
  rw [EReal.right_distrib_of_nonneg_of_ne_top hr (EReal.coe_ne_top _), EReal.right_distrib_of_nonneg_of_ne_top hr (EReal.coe_ne_top _)]
  congr 1
  · congr 1
    · rw [mul_comm (w0 : EReal) x0, mul_assoc]
    · rw [mul_comm (w1 : EReal) x1, mul_assoc]
  · rw [mul_comm (w2 : EReal) x2, mul_assoc]

/-- A weight over itself is one. -/
theorem over_itself {w : ℝ} (h : 0 < w) : Ideal.div (w : EReal) (w : EReal) = 1 := by
  rw [Ideal.div_coe h.ne']
  norm_cast
  field_simp

/-! ## The nearest source alone -/

/-- Where one entry is below all others, the kernel's one-source sum takes its row. -/
theorem gathers1 {d : Mat m n} {i : Fin n} {p : Fin m} (h : ∀ a, a ≠ p → (d (ix2 p i) : EReal) < d (ix2 a i)) (x : Mat m c) (e : Fin c) :
    gathered (weight1 d) x (ix2 i e) = x (ix2 p e) := by
  have hl : least d (ix2 0 i) = d (ix2 p i) := by
    rw [least_apply]
    refine inf_eq p fun a => ?_
    by_cases ha : a = p
    · rw [ha]
    · exact (h a ha).le
  have hw : ∀ a : Fin m, select (cmpf .ole d (rows m (least d))) (splat m n 0x3F800000#32) (splat m n 0x00000000#32) (ix2 a i)
      = if a = p then (1 : EReal) else 0 := fun a => by
    rw [select_apply, cmpf_apply, rows_apply, word_le, hl, splat_apply, splat_apply, word_one, word_zero]
    by_cases ha : a = p
    · rw [ha, if_pos (le_refl _), if_pos rfl]; rfl
    · rw [if_neg ha, if_neg (not_le.mpr (h a ha))]; rfl
  have hs : ∀ a : Fin m, weight1 d (ix2 a i) = if a = p then (1 : EReal) else 0 := fun a => by
    show Ideal.div (select (cmpf .ole d (rows m (least d))) (splat m n 0x3F800000#32) (splat m n 0x00000000#32) (ix2 a i))
      (rows m (colSum (select (cmpf .ole d (rows m (least d))) (splat m n 0x3F800000#32) (splat m n 0x00000000#32))) (ix2 a i)) = _
    rw [rows_apply, colSum_apply, Finset.sum_congr rfl fun a _ => hw a, hw]
    simp only [Finset.sum_ite_eq', Finset.mem_univ, if_true]
    rw [show (1 : EReal) = ((1 : ℝ) : EReal) from rfl, Ideal.div_coe one_ne_zero]
    simp
  rw [cross_apply, Finset.sum_congr rfl fun a _ => by rw [hs a]]
  simp [ite_mul]

end Cert.Cloud

end
-- ==== Proof.Ranking.lean ====
/-
  The order by distance: sorting a row of extended reals downwards, and what strict steps at the head of the order say of
  the nearest entries.
-/
module

public import proofs.«01_k».proof.Proof.RefTerms
public import Idealize.ShloMosaic.Lib.SortFacts
public import Idealize.ShloMosaic.Lib.Pipeline.Value
public import Idealize.ShloMosaic.Lib.ValueIdxCore

@[expose] public section

noncomputable section

namespace Cert.Cloud

open Idealize.ShloMosaic
open Idealize.ShloMosaic.ValueIdx

variable {n m k : ℕ}

/-- The positions of a row in descending order of its entries. -/
def order (r : Fin m → EReal) : Fin m → Fin m :=
  sortedFrom fun a b => FloatOps.cmpfTotal (F := Ideal) (φ := .f32) .gt (r a) (r b) == 1#1

theorem before_iff (x y : EReal) : (FloatOps.cmpfTotal (F := Ideal) (φ := .f32) .gt x y == 1#1) = decide (y < x) := by
  show (BitVec.ofBool (decide (y < x)) == 1#1) = _
  by_cases h : y < x <;> simp [h]

theorem order_injective (r : Fin m → EReal) : Function.Injective (order r) := sortedFrom_injective _
theorem order_surjective (r : Fin m → EReal) : Function.Surjective (order r) := sortedFrom_surjective _

/-- A later position holds no greater entry. -/
theorem order_le (r : Fin m → EReal) {i j : Fin m} (h : i < j) : r (order r j) ≤ r (order r i) := by
  have := sortedFrom_noInversion (fun a b => decide (r b < r a))
    (fun a b => FloatOps.cmpfTotal (F := Ideal) (φ := .f32) .gt (r a) (r b) == 1#1)
    (fun a b hab => by
      simp only [before_iff, decide_eq_true_eq, decide_eq_false_iff_not, not_lt] at hab ⊢
      exact hab.le)
    (fun a b hab => by rw [before_iff]; exact hab)
    (fun a b c hab hbc => by
      simp only [decide_eq_false_iff_not, not_lt] at hab hbc ⊢
      exact hab.trans hbc) i j h
  exact not_lt.mp (of_decide_eq_false this)

/-- The values and the numbers of the `k` first positions. -/
theorem ranked_apply (h : k ≤ m) (d : Mat n m) (i : Fin n) (j : Fin k) :
    (ranked k h d).1 (ix2 i j) = -(d (ix2 i (order (fun a => -(d (ix2 i a))) ⟨j.val, j.isLt.trans_le h⟩)))
    ∧ (ranked k h d).2 (ix2 i j) = BitVec.ofNat 32 (order (fun a => -(d (ix2 i a))) ⟨j.val, j.isLt.trans_le h⟩).val := by
  have key : ∀ a : Fin m, (Shape.Idx.along (s := M2 n m) (ix2 i ⟨j.val, j.isLt.trans_le h⟩) 1 a) = ix2 i a := fun a => by
    funext ax; match ax with | ⟨0, _⟩ => rfl | ⟨1, _⟩ => rfl
  have ho : sortedFrom (fun a b : Fin m => FloatOps.cmpfTotal (F := Ideal) (φ := .f32) .gt
        (Host.negf d (Shape.Idx.along (s := M2 n m) (ix2 i ⟨j.val, j.isLt.trans_le h⟩) 1 a))
        (Host.negf d (Shape.Idx.along (s := M2 n m) (ix2 i ⟨j.val, j.isLt.trans_le h⟩) 1 b)) == 1#1) ⟨j.val, j.isLt.trans_le h⟩
      = order (fun a => -(d (ix2 i a))) ⟨j.val, j.isLt.trans_le h⟩ := by
    simp only [key]; rfl
  have hs : ∀ {α : Type} (x : (M2 n m).Idx → α), extractStridedSlice (M2 n k) (fun _ => 0) x (slice_cols n m k h) (ix2 i j)
      = x (ix2 i ⟨j.val, j.isLt.trans_le h⟩) := fun x => extractStridedSlice_apply _ x _ _ _ fun a => by
    match a with
    | ⟨0, _⟩ => exact (Nat.zero_add _).symm
    | ⟨1, _⟩ => exact (Nat.zero_add _).symm
  constructor
  · refine (hs (Host.sort2 (M2 n m) 1 (fun l r => FloatOps.cmpfTotal .gt l.1 r.1) (Host.negf d) (fun t => iotaInDim (M2 n m) 32 1 t)).1).trans ?_
    show Host.negf d (Shape.Idx.along (s := M2 n m) (ix2 i ⟨j.val, j.isLt.trans_le h⟩) 1 (sortedFrom _ _)) = _
    refine (congrArg (fun t => Host.negf d (Shape.Idx.along (s := M2 n m) (ix2 i ⟨j.val, j.isLt.trans_le h⟩) 1 t)) ho).trans ?_
    rw [key]; rfl
  · refine (hs (Host.sort2 (M2 n m) 1 (fun l r => FloatOps.cmpfTotal .gt l.1 r.1) (Host.negf d) (fun t => iotaInDim (M2 n m) 32 1 t)).2).trans ?_
    show BitVec.ofNat 32 (sortedFrom _ _ : Fin m).val = _
    exact congrArg (fun t : Fin m => BitVec.ofNat 32 t.val) ho

/-- The source in position `j` of the order by distance of target `i`. -/
def nth (d : Mat n m) (i : Fin n) (j : Fin m) : Fin m := order (fun a => -(d (ix2 i a))) j

/-- Where the distances rise strictly through the first `k` positions, every source that is not among them is farther
    than the last of them. -/
theorem farther (d : Mat n m) (i : Fin n) (hk : k < m) (hd : ∀ (j : ℕ) (h : j < k),
      d (ix2 i (nth d i ⟨j, h.trans hk⟩)) < d (ix2 i (nth d i ⟨j + 1, (Nat.succ_le_of_lt h).trans_lt hk⟩)))
    (hk0 : 0 < k) (q : Fin m) (hq : ∀ (j : ℕ) (h : j < k), q ≠ nth d i ⟨j, h.trans hk⟩) :
    d (ix2 i (nth d i ⟨k - 1, by omega⟩)) < d (ix2 i q) := by
  obtain ⟨t, rfl⟩ := order_surjective (fun a => -(d (ix2 i a))) q
  have ht : k ≤ t.val := by
    by_contra hlt
    exact hq t.val (by omega) rfl
  have h1 := hd (k - 1) (by omega)
  have e : (⟨k - 1 + 1, by omega⟩ : Fin m) = ⟨k, hk⟩ := Fin.ext (by simp; omega)
  rw [e] at h1
  refine h1.trans_le ?_
  rcases ht.eq_or_lt with h | h
  · have : t = ⟨k, hk⟩ := Fin.ext h.symm
    rw [this]; exact le_refl _
  · have := order_le (fun a => -(d (ix2 i a))) (i := ⟨k, hk⟩) (j := t) h
    exact EReal.neg_le_neg_iff.mp this

end Cert.Cloud

end
-- ==== Proof.Level.lean ====
/-
  One level: for a target of one batch, the kernel's interpolation over the batch's sources is the reference's over all
  sources.
-/
module

public import proofs.«01_k».proof.Proof.Nearest
public import proofs.«01_k».proof.Proof.Ranking

@[expose] public section

noncomputable section

namespace Cert.Cloud

open Idealize.ShloMosaic hiding ix0 ix1 ix2 ix3 ix4 ix5
open Idealize.ShloMosaic.ValueIdx
open scoped BigOperators

variable {n m c nl ml : ℕ}

/-- The sources `σ` are the ones in the batch of the target `t`, and outside it there is a source beside any three. -/
structure Group (qb : Words n) (sb : Words m) (t : Fin n) (σ : Fin ml → Fin m) : Prop where
  inj : Function.Injective σ
  same : ∀ a, qb (ix1 t) = sb (ix1 (σ a))
  all : ∀ r, qb (ix1 t) = sb (ix1 r) → ∃ a, r = σ a
  others : ∀ p0 p1 p2 : Fin m, ∃ r, r ≠ p0 ∧ r ≠ p1 ∧ r ≠ p2 ∧ qb (ix1 t) ≠ sb (ix1 r)

/-- The distances rise strictly through the first `k` positions of target `t`'s order. -/
def Rises (k : ℕ) (d : Mat n m) (hk : k < m) (t : Fin n) : Prop :=
  ∀ (j : ℕ) (h : j < k), d (ix2 t (nth d t ⟨j, h.trans hk⟩)) < d (ix2 t (nth d t ⟨j + 1, (Nat.succ_le_of_lt h).trans_lt hk⟩))

section

variable {qb : Words n} {sb : Words m} {t : Fin n} {σ : Fin ml → Fin m} (G : Group qb sb t σ)
  (q : Mat n 3) (s : Mat m 3) (hfin : ∀ r e, ∃ v : ℝ, s (ix2 r e) = (v : EReal))
include G

/-- A source outside the batch is at the distance `far`. -/
theorem Group.out {r : Fin m} (h : qb (ix1 t) ≠ sb (ix1 r)) : masked q s qb sb (ix2 t r) = far := by
  rw [masked_apply, if_neg h]

/-- A source nearer than `far` is in the batch. -/
theorem Group.near {r : Fin m} (h : (masked q s qb sb (ix2 t r) : EReal) < far) : ∃ a, r = σ a := by
  by_contra hn
  have hne : qb (ix1 t) ≠ sb (ix1 r) := fun e => hn (G.all r e)
  rw [G.out q s hne] at h
  exact lt_irrefl _ h

include hfin in
/-- Where some source is nearer than `far`, the kernel's distances are the reference's. -/
theorem Group.agree {p : Fin m} (h : (masked q s qb sb (ix2 t p) : EReal) < far)
    (q' : Mat nl 3) (s' : Mat ml 3) (i : Fin nl) (hq : ∀ e, q' (ix2 i e) = q (ix2 t e)) (hs : ∀ a e, s' (ix2 a e) = s (ix2 (σ a) e)) (a : Fin ml) :
    distances q' s' (ix2 a i) = masked q s qb sb (ix2 t (σ a)) := by
  choose v hv using hfin
  obtain ⟨b, rfl⟩ := G.near q s h
  rw [masked_apply, if_pos (G.same b)] at h
  have hft : far < ⊤ := by rw [far_real]; exact EReal.coe_lt_top _
  obtain ⟨w, hw⟩ := real_of_near (fun e => q (ix2 t e)) (v (σ b)) (by
    simp only [← hv]; exact h.trans hft)
  rw [masked_apply, if_pos (G.same a), distances_apply]
  simp only [hq, hs, hv]
  have := expanded w (v (σ a))
  simp only [← hw] at this
  exact this

end

/-- With three nearest sources. -/
theorem level3 {qb : Words n} {sb : Words m} {t : Fin n} {σ : Fin ml → Fin m} (G : Group qb sb t σ)
    (q : Mat n 3) (s : Mat m 3) (x : Mat m c) (hfin : ∀ r e, ∃ v : ℝ, s (ix2 r e) = (v : EReal))
    (q' : Mat nl 3) (s' : Mat ml 3) (x' : Mat ml c) (i : Fin nl)
    (hq : ∀ e, q' (ix2 i e) = q (ix2 t e)) (hs : ∀ a e, s' (ix2 a e) = s (ix2 (σ a) e)) (hx : ∀ a e, x' (ix2 a e) = x (ix2 (σ a) e))
    (hk : 3 < m) (hd : Rises 3 (masked q s qb sb) hk t) (hm : m < 2 ^ 31) (wf : TakesRows m n 3 c) (e : Fin c) :
    interpolated3 (distances q' s') x' (ix2 i e) = nearest3 wf hk.le (masked q s qb sb) x (ix2 t e) := by
  set D := masked q s qb sb with hD
  have hrest := farther D t hk hd (by decide)
  have h01 := hd 0 (by decide)
  have h12 := hd 1 (by decide)
  set P : Fin 3 → Fin m := fun j => nth D t ⟨j.val, j.isLt.trans hk⟩ with hP
  change D (ix2 t (P 0)) < D (ix2 t (P 1)) at h01
  change D (ix2 t (P 1)) < D (ix2 t (P 2)) at h12
  have hrest' : ∀ r, r ≠ P 0 → r ≠ P 1 → r ≠ P 2 → D (ix2 t (P 2)) < D (ix2 t r) := fun r h0 h1 h2 =>
    hrest r fun j hj => by
      interval_cases j
      · exact h0
      · exact h1
      · exact h2
  obtain ⟨r, hr0, hr1, hr2, hr⟩ := G.others (P 0) (P 1) (P 2)
  have hfar : D (ix2 t (P 2)) < far := by
    have := hrest' r hr0 hr1 hr2
    rwa [show D (ix2 t r) = far from G.out q s hr] at this
  have hag := G.agree q s hfin hfar q' s' i hq hs
  obtain ⟨a0, ha0⟩ := G.near q s ((h01.trans h12).trans hfar)
  obtain ⟨a1, ha1⟩ := G.near q s (h12.trans hfar)
  obtain ⟨a2, ha2⟩ := G.near q s hfar
  have hg0 : distances q' s' (ix2 a0 i) = D (ix2 t (P 0)) := by rw [hag a0, ha0]
  have hg1 : distances q' s' (ix2 a1 i) = D (ix2 t (P 1)) := by rw [hag a1, ha1]
  have hg2 : distances q' s' (ix2 a2 i) = D (ix2 t (P 2)) := by rw [hag a2, ha2]
  have T : Three (fun a => distances q' s' (ix2 a i)) a0 a1 a2 := by
    refine ⟨?_, ?_, fun a n0 n1 n2 => ?_⟩
    · show distances q' s' (ix2 a0 i) < distances q' s' (ix2 a1 i); rw [hg0, hg1]; exact h01
    · show distances q' s' (ix2 a1 i) < distances q' s' (ix2 a2 i); rw [hg1, hg2]; exact h12
    · show distances q' s' (ix2 a2 i) < distances q' s' (ix2 a i)
      rw [hg2, hag a]
      refine hrest' _ ?_ ?_ ?_
      · rw [ha0]; exact fun h => n0 (G.inj h)
      · rw [ha1]; exact fun h => n1 (G.inj h)
      · rw [ha2]; exact fun h => n2 (G.inj h)
  have hb : (distances q' s' (ix2 a2 i) : EReal) < away := by rw [hg2]; exact hfar.trans far_lt_away
  have hft : far < ⊤ := by rw [far_real]; exact EReal.coe_lt_top _
  obtain ⟨w0, hw0, e0⟩ := inverse_real _ (((h01.trans h12).trans hfar).trans hft)
  obtain ⟨w1, hw1, e1⟩ := inverse_real _ ((h12.trans hfar).trans hft)
  obtain ⟨w2, hw2, e2⟩ := inverse_real _ (hfar.trans hft)
  -- the kernel
  have hscale : scale3 (distances q' s') (ix2 0 i) = Ideal.div 1 ((w0 : EReal) + w1 + w2) := by
    show Ideal.div (Ideal.ofBits .f32 0x3F800000#32)
      ((inverse (least (distances q' s')) (ix2 0 i) + inverse (second (distances q' s')) (ix2 0 i)) + inverse (third (distances q' s')) (ix2 0 i)) = _
    rw [word_one, inverse_apply, inverse_apply, inverse_apply, T.first, T.second hb, T.third hb, hg0, hg1, hg2, e0, e1, e2]
  have hkernel : interpolated3 (distances q' s') x' (ix2 i e)
      = ((w0 : EReal) * x (ix2 (P 0) e) + w1 * x (ix2 (P 1) e) + w2 * x (ix2 (P 2) e)) * Ideal.div 1 ((w0 : EReal) + w1 + w2) := by
    unfold interpolated3
    rw [mulf_apply, cols_apply, turn_apply, hscale, T.gathers hb, hg0, hg1, hg2, e0, e1, e2, hx, hx, hx, ← ha0, ← ha1, ← ha2]
  -- the reference
  have hval : ∀ j : Fin 3, inverses (ranked 3 hk.le D).1 (ix2 t j) = Ideal.div 1 (max (D (ix2 t (P j))) eps) := fun j => by
    rw [inverses_apply, (ranked_apply hk.le D t j).1, neg_neg, max_comm]; rfl
  have htaken : ∀ j : Fin 3, taken wf x (ranked 3 hk.le D).2 (ix3 t j e) = x (ix2 (P j) e) := fun j =>
    taken_apply hm wf x _ t j e (P j) ((ranked_apply hk.le D t j).2.trans rfl)
  rw [hkernel]
  unfold nearest3
  rw [summed_apply, Fin.sum_univ_three, shares_apply, shares_apply, shares_apply, Fin.sum_univ_three, hval, hval, hval,
    htaken, htaken, htaken, e0, e1, e2]
  exact scaled_sum hw0 hw1 hw2 _ _ _

/-- With the nearest source alone. -/
theorem level1 {qb : Words n} {sb : Words m} {t : Fin n} {σ : Fin ml → Fin m} (G : Group qb sb t σ)
    (q : Mat n 3) (s : Mat m 3) (x : Mat m c) (hfin : ∀ r e, ∃ v : ℝ, s (ix2 r e) = (v : EReal))
    (q' : Mat nl 3) (s' : Mat ml 3) (x' : Mat ml c) (i : Fin nl)
    (hq : ∀ e, q' (ix2 i e) = q (ix2 t e)) (hs : ∀ a e, s' (ix2 a e) = s (ix2 (σ a) e)) (hx : ∀ a e, x' (ix2 a e) = x (ix2 (σ a) e))
    (hk : 1 < m) (hd : Rises 1 (masked q s qb sb) hk t) (hm : m < 2 ^ 31) (wf : TakesRows m n 1 c) (e : Fin c) :
    gathered (weight1 (distances q' s')) x' (ix2 i e) = nearest1 wf hk.le (masked q s qb sb) x (ix2 t e) := by
  set D := masked q s qb sb with hD
  set p : Fin m := nth D t ⟨0, by omega⟩ with hp
  have hrest : ∀ r, r ≠ p → D (ix2 t p) < D (ix2 t r) := fun r hr =>
    farther D t hk hd (by decide) r fun j hj => by
      interval_cases j
      exact hr
  obtain ⟨r, hr0, -, -, hr⟩ := G.others p p p
  have hfar : D (ix2 t p) < far := by
    have := hrest r hr0
    rwa [show D (ix2 t r) = far from G.out q s hr] at this
  have hag := G.agree q s hfin hfar q' s' i hq hs
  obtain ⟨a, ha⟩ := G.near q s hfar
  have hft : far < ⊤ := by rw [far_real]; exact EReal.coe_lt_top _
  obtain ⟨w, hw, ew⟩ := inverse_real _ (hfar.trans hft)
  have hval : inverses (ranked 1 hk.le D).1 (ix2 t 0) = (w : EReal) := by
    rw [inverses_apply, (ranked_apply hk.le D t 0).1, neg_neg, max_comm]; exact ew
  have htaken : taken wf x (ranked 1 hk.le D).2 (ix3 t 0 e) = x (ix2 p e) :=
    taken_apply hm wf x _ t 0 e p ((ranked_apply hk.le D t 0).2.trans rfl)
  unfold nearest1
  rw [summed_apply, Fin.sum_univ_one, share_apply, hval, htaken, over_itself hw, mul_one]
  rw [gathers1 (p := a) (fun b hb => by
    rw [hag a, hag b, ← ha]
    refine hrest _ fun h => hb (G.inj ?_)
    rw [h, ha]), hx, ← ha]

end Cert.Cloud

end
-- ==== Proof.Assumed.lean ====
/-
  The precondition read in the reference's terms: what it says of the batch vectors, of the source points and of the
  order of the distances.
-/
module

public import proofs.«01_k».proof.Pre_drawn_clouds
public import proofs.«01_k».proof.Proof.Level

@[expose] public section

noncomputable section

namespace Cert.Cloud

open Idealize.ShloMosaic hiding ix0 ix1 ix2 ix3 ix4 ix5
open Idealize.ShloMosaic.ValueIdx

/-- The shape relations that the precondition's operations take. -/
theorem pre_facts : Cert.Pre_drawn_clouds.Facts := by
  constructor
  all_goals first
    | exact bc_scalar _ | exact bc_mid1 _ _ | exact bc_lead1 _ _ | exact bc_mid _ _ _ | exact bc_lead _ _ _
    | exact hred_last _ _ _ | exact scalar_pos | exact bc_col _ | exact bc_row _ | exact bc_cols _ _ | exact bc_rows _ _
    | exact slice_cols _ _ _ (by decide) | decide

/-- Column `j` of the first `k` columns of a matrix, against column `j + 1`. -/
def descends (k : ℕ) {n : ℕ} (v : Mat n (k + 1)) (h : (M2 n (k + 1)).Slices ![0, 0] (M2 n k)) (h' : (M2 n (k + 1)).Slices ![0, 1] (M2 n k)) :
    IVec (M2 n k) 1 :=
  cmpf .ogt (extractStridedSlice (M2 n k) ![0, 0] v h) (extractStridedSlice (M2 n k) ![0, 1] v h')

/-- A batch vector cut into rows of `k`, against the rows' numbers. -/
def grouped {a : ℕ} (n k : ℕ) (b : Words a) (h : (M1 a).ShapeCasts (M2 n k)) : IVec (M2 n k) 1 :=
  cmpi .eq (shapeCast (M2 n k) b h) (iotaInDim (M2 n k) 32 0)

/-- Which entries are below `+∞` in absolute value. -/
def bounded {a : ℕ} (p : Mat a 3) : IVec (M2 a 3) 1 := cmpf .olt (Host.absf p) (fill (M2 a 3) 0x7F800000#32)

/-- What is assumed of the batch vectors and of the points. -/
structure Drawn (p0 : Mat 16384 3) (b0 : Words 16384) (p1 : Mat 4096 3) (b1 : Words 4096) (p2 : Mat 1024 3) (b2 : Words 1024)
    (p3 : Mat 256 3) (b3 : Words 256) : Prop where
  batch0 : grouped 16 1024 b0 (by decide) = fun _ => 1#1
  batch1 : grouped 16 256 b1 (by decide) = fun _ => 1#1
  batch2 : grouped 16 64 b2 (by decide) = fun _ => 1#1
  batch3 : grouped 16 16 b3 (by decide) = fun _ => 1#1
  real1 : bounded p1 = fun _ => 1#1
  real2 : bounded p2 = fun _ => 1#1
  real3 : bounded p3 = fun _ => 1#1
  rises3 : descends 1 (ranked 2 (by decide) (masked p2 p3 b2 b3)).1 (by decide) (by decide) = fun _ => 1#1
  rises2 : descends 3 (ranked 4 (by decide) (masked p1 p2 b1 b2)).1 (by decide) (by decide) = fun _ => 1#1
  rises1 : descends 3 (ranked 4 (by decide) (masked p0 p1 b0 b1)).1 (by decide) (by decide) = fun _ => 1#1

attribute [local instance] pre_facts

set_option maxRecDepth 8192 in
/-- The precondition's ten parts, in these terms. -/
theorem drawn_of (x0 : Mat 16384 10) (p0 : Mat 16384 3) (b0 : Words 16384) (x1 : Mat 4096 128) (p1 : Mat 4096 3) (b1 : Words 4096)
    (x2 : Mat 1024 256) (p2 : Mat 1024 3) (b2 : Words 1024) (x3 : Mat 256 1024) (p3 : Mat 256 3) (b3 : Words 256)
    (w31 : Mat 1280 256) (b31 : Arr 256) (w32 : Mat 256 256) (b32 : Arr 256)
    (w21 : Mat 384 256) (b21 : Arr 256) (w22 : Mat 256 128) (b22 : Arr 128)
    (w11 : Mat 138 128) (b11 : Arr 128) (w12 : Mat 128 128) (b12 : Arr 128) (w13 : Mat 128 128) (b13 : Arr 128)
    (l1 : Mat 128 128) (c1 : Arr 128) (l2 : Mat 128 3) (c2 : Arr 3)
    (r : _) (hr : Cert.Pre_drawn_clouds.fn (F := Ideal) x0 p0 b0 x1 p1 b1 x2 p2 b2 x3 p3 b3 w31 b31 w32 b32 w21 b21 w22 b22 w11 b11 w12 b12 w13 b13 l1 c1 l2 c2 = r)
    (h : r.1 = (fun _ => 1#1) ∧ r.2.1 = (fun _ => 1#1) ∧ r.2.2.1 = (fun _ => 1#1) ∧ r.2.2.2.1 = (fun _ => 1#1)
      ∧ r.2.2.2.2.1 = (fun _ => 1#1) ∧ r.2.2.2.2.2.1 = (fun _ => 1#1) ∧ r.2.2.2.2.2.2.1 = (fun _ => 1#1)
      ∧ r.2.2.2.2.2.2.2.1 = (fun _ => 1#1) ∧ r.2.2.2.2.2.2.2.2.1 = (fun _ => 1#1) ∧ r.2.2.2.2.2.2.2.2.2 = (fun _ => 1#1)) :
    Drawn p0 b0 p1 b1 p2 b2 p3 b3 := by
  subst hr
  obtain ⟨h0, h1, h2, h3, h4, h5, h6, h7, h8, h9⟩ := h
  exact ⟨h0, h1, h2, h3, h4, h5, h6, h7, h8, h9⟩

/-! ## Read at an index -/

/-- The number of row `i` of batch `β`, of `k` rows a batch. -/
def pos {a B k : ℕ} (h : a = B * k) (β : Fin B) (i : Fin k) : Fin a :=
  ⟨β.val * k + i.val, by
    subst h
    calc β.val * k + i.val < β.val * k + k := by omega
      _ = (β.val + 1) * k := by ring
      _ ≤ B * k := Nat.mul_le_mul_right k β.isLt⟩

theorem pos_injective {a B k : ℕ} (h : a = B * k) (β : Fin B) : Function.Injective (pos (k := k) h β) := fun i j e => by
  have := congrArg Fin.val e
  simp only [pos] at this
  exact Fin.ext (by omega)

/-- Every row is some batch's. -/
theorem pos_surjective {a B k : ℕ} (h : a = B * k) (r : Fin a) : ∃ (β : Fin B) (i : Fin k), r = pos h β i := by
  have hk : 0 < k := by
    rcases Nat.eq_zero_or_pos k with h0 | h0
    · have := r.isLt; subst h; subst h0; simp at this
    · exact h0
  refine ⟨⟨r.val / k, ?_⟩, ⟨r.val % k, Nat.mod_lt _ hk⟩, Fin.ext ?_⟩
  · rw [Nat.div_lt_iff_lt_mul hk, ← h]; exact r.isLt
  · show r.val = r.val / k * k + r.val % k
    rw [Nat.mul_comm]; exact (Nat.div_add_mod _ _).symm

theorem grouped_read {a B k : ℕ} (h : a = B * k) (b : Words a) (hc : (M1 a).ShapeCasts (M2 B k)) (hb : grouped B k b hc = fun _ => 1#1)
    (β : Fin B) (i : Fin k) : b (ix1 (pos h β i)) = BitVec.ofNat 32 β.val := by
  have := congrFun hb (ix2 β i)
  unfold grouped at this
  rw [cmpi_apply, shapeCast_apply b hc (ix2 β i) (ix1 (pos h β i)) (by
    rw [Shape.rowMajor_val_two, Shape.rowMajor_val_one]; rfl), iotaInDim_apply] at this
  change BitVec.ofBool (b (ix1 (pos h β i)) == BitVec.ofNat 32 β.val) = 1#1 at this
  by_contra hne
  rw [show (b (ix1 (pos h β i)) == BitVec.ofNat 32 β.val) = false by simpa using hne] at this
  exact absurd this (by decide)

theorem real_of_abs (x : EReal) (h : max x (-x) < ⊤) : ∃ v : ℝ, x = (v : EReal) := by
  induction x with
  | bot => simp at h
  | top => simp at h
  | coe v => exact ⟨v, rfl⟩

theorem bounded_read {a : ℕ} (p : Mat a 3) (h : bounded p = fun _ => 1#1) (r : Fin a) (e : Fin 3) : ∃ v : ℝ, p (ix2 r e) = (v : EReal) := by
  have := congrFun h (ix2 r e)
  unfold bounded at this
  rw [cmpf_apply, fill_apply, word_top] at this
  change BitVec.ofBool (decide (max (p (ix2 r e) : EReal) (-(p (ix2 r e) : EReal)) < ⊤)) = 1#1 at this
  have hlt : max (p (ix2 r e) : EReal) (-(p (ix2 r e) : EReal)) < ⊤ := by
    by_contra hn
    rw [decide_eq_false hn] at this
    exact absurd this (by decide)
  exact real_of_abs _ hlt

theorem rises_read {n m k : ℕ} (d : Mat n m) (hk : k < m) (h1 : _) (h2 : _)
    (h : descends k (ranked (k + 1) hk d).1 h1 h2 = fun _ => 1#1) (t : Fin n) : Rises k d hk t := by
  intro j hj
  have := congrFun h (ix2 t ⟨j, hj⟩)
  unfold descends at this
  rw [cmpf_apply,
    extractStridedSlice_apply _ _ h1 (ix2 t ⟨j, hj⟩) (ix2 t ⟨j, by omega⟩) (fun a => by
      match a with | ⟨0, _⟩ => exact (Nat.zero_add _).symm | ⟨1, _⟩ => exact (Nat.zero_add _).symm),
    extractStridedSlice_apply _ _ h2 (ix2 t ⟨j, hj⟩) (ix2 t ⟨j + 1, by omega⟩) (fun a => by
      match a with | ⟨0, _⟩ => exact (Nat.zero_add _).symm | ⟨1, _⟩ => exact (Nat.add_comm 1 j).symm),
    (ranked_apply hk d t ⟨j, by omega⟩).1, (ranked_apply hk d t ⟨j + 1, by omega⟩).1] at this
  change BitVec.ofBool (decide (-(d (ix2 t (nth d t ⟨j + 1, by omega⟩)) : EReal) < -(d (ix2 t (nth d t ⟨j, by omega⟩)) : EReal))) = 1#1 at this
  by_contra hn
  rw [decide_eq_false (fun hlt => hn (EReal.neg_lt_neg_iff.mp hlt))] at this
  exact absurd this (by decide)

/-- Batches of equal sizes in order make a `Group` of each batch. -/
theorem group_of {n m nl ml B : ℕ} (hn : n = B * nl) (hm : m = B * ml) (qb : Words n) (sb : Words m)
    (hq : ∀ β i, qb (ix1 (pos hn β i)) = BitVec.ofNat 32 β.val) (hs : ∀ β i, sb (ix1 (pos hm β i)) = BitVec.ofNat 32 β.val)
    (hB : 2 ≤ B) (hB' : B < 2 ^ 32) (hml : 4 ≤ ml) (β : Fin B) (i : Fin nl) : Group qb sb (pos hn β i) (pos (k := ml) hm β) := by
  have word : ∀ γ δ : Fin B, BitVec.ofNat 32 γ.val = BitVec.ofNat 32 δ.val → γ = δ := fun γ δ h => by
    have h' := congrArg BitVec.toNat h
    rw [BitVec.toNat_ofNat, BitVec.toNat_ofNat, Nat.mod_eq_of_lt (by omega), Nat.mod_eq_of_lt (by omega)] at h'
    exact Fin.ext h'
  refine ⟨pos_injective hm β, fun a => by rw [hq, hs], fun r hr => ?_, fun p0 p1 p2 => ?_⟩
  · obtain ⟨γ, a, rfl⟩ := pos_surjective hm r
    rw [hq, hs] at hr
    rw [word β γ hr]
    exact ⟨a, rfl⟩
  · obtain ⟨γ, hγ⟩ : ∃ γ : Fin B, γ ≠ β := by
      by_cases h0 : β.val = 0
      · exact ⟨⟨1, by omega⟩, fun h => by rw [← h] at h0; simp at h0⟩
      · exact ⟨⟨0, by omega⟩, fun h => by rw [← h] at h0; simp at h0⟩
    have hout : ∀ a : Fin ml, qb (ix1 (pos hn β i)) ≠ sb (ix1 (pos hm γ a)) := fun a h => by
      rw [hq, hs] at h; exact hγ (word β γ h).symm
    by_contra hno
    push Not at hno
    have h : ∀ v : ℕ, v < 4 → γ.val * ml + v = p0.val ∨ γ.val * ml + v = p1.val ∨ γ.val * ml + v = p2.val := fun v hv => by
      by_contra hc
      push Not at hc
      exact hout ⟨v, by omega⟩ (hno (pos hm γ ⟨v, by omega⟩) (fun e => hc.1 (congrArg Fin.val e)) (fun e => hc.2.1 (congrArg Fin.val e))
        (fun e => hc.2.2 (congrArg Fin.val e)))
    have := h 0 (by decide)
    have := h 1 (by decide)
    have := h 2 (by decide)
    have := h 3 (by decide)
    omega

end Cert.Cloud

end
-- ==== Proof.Batch.lean ====
/-
  One batch: the kernel's batch, given its rows of every array, is the reference's rows of that batch.
-/
module

public import proofs.«01_k».proof.Proof.Assumed

@[expose] public section

noncomputable section

namespace Cert.Cloud

open Idealize.ShloMosaic hiding ix0 ix1 ix2 ix3 ix4 ix5
open Idealize.ShloMosaic.ValueIdx
open scoped BigOperators

/-- Row `i` of `x` is row `t` of `X`. -/
def SameRow {n N c : ℕ} (x : Mat n c) (X : Mat N c) (i : Fin n) (t : Fin N) : Prop := ∀ e, x (ix2 i e) = X (ix2 t e)

variable {n N k c : ℕ} {i : Fin n} {t : Fin N}

theorem rowOf {x : Mat n c} {X : Mat N c} (h : ∀ e, x (ix2 i e) = X (ix2 t e)) : SameRow x X i t := h

theorem SameRow.dense {x : Mat n k} {X : Mat N k} (h : SameRow x X i t) (w : Mat k c) (b : Arr c) (b' : Mat 1 c)
    (hb : ∀ j, b' (ix2 0 j) = b (ix1 j)) : SameRow (dense x w b') (hostDense X w b) i t := fun j => by
  rw [dense_apply, hostDense_apply, hb]
  simp only [h _]

theorem SameRow.relu {x : Mat n c} {X : Mat N c} (h : SameRow x X i t) : SameRow (relu x) (hostRelu X) i t := fun j => by
  rw [relu_apply, hostRelu_apply, h]

theorem SameRow.beside {a b : ℕ} {x : Mat n a} {X : Mat N a} {y : Mat n b} {Y : Mat N b} (hx : SameRow x X i t)
    (hy : SameRow y Y i t) (h : a + b = c) : SameRow (beside x y h) (beside X Y h) i t := fun j => by
  rw [beside_apply, beside_apply]
  split
  · exact hx _
  · exact hy _

set_option maxRecDepth 20000 in
set_option maxHeartbeats 1000000 in
/-- Row `i` of batch `β` of the kernel is the reference's row of that number. -/
theorem batch_eq {p0 : Mat 16384 3} {b0 : Words 16384} {p1 : Mat 4096 3} {b1 : Words 4096} {p2 : Mat 1024 3} {b2 : Words 1024}
    {p3 : Mat 256 3} {b3 : Words 256} (D : Drawn p0 b0 p1 b1 p2 b2 p3 b3)
    (x0 : Mat 16384 10) (x1 : Mat 4096 128) (x2 : Mat 1024 256) (x3 : Mat 256 1024)
    (x0' : Mat 1024 10) (p0' : Mat 1024 3) (x1' : Mat 256 128) (p1' : Mat 256 3) (x2' : Mat 64 256) (p2' : Mat 64 3) (x3' : Mat 16 1024) (p3' : Mat 16 3)
    (w31 : Mat 1280 256) (w31' : Mat 1280 256) (w32 : Mat 256 256) (w32' : Mat 256 256) (w21 : Mat 384 256) (w21' : Mat 384 256) (w22 : Mat 256 128) (w22' : Mat 256 128) (w11 : Mat 138 128) (w11' : Mat 138 128) (w12 : Mat 128 128) (w12' : Mat 128 128) (w13 : Mat 128 128) (w13' : Mat 128 128) (l1 : Mat 128 128) (l1' : Mat 128 128) (l2 : Mat 128 3) (l2' : Mat 128 3)
    (b31 : Arr 256) (b31' : Mat 1 256) (b32 : Arr 256) (b32' : Mat 1 256) (b21 : Arr 256) (b21' : Mat 1 256) (b22 : Arr 128) (b22' : Mat 1 128) (b11 : Arr 128) (b11' : Mat 1 128) (b12 : Arr 128) (b12' : Mat 1 128) (b13 : Arr 128) (b13' : Mat 1 128) (c1 : Arr 128) (c1' : Mat 1 128) (c2 : Arr 3) (c2' : Mat 1 3)
    (β : Fin 16)
    (hx0 : ∀ a, SameRow x0' x0 a (pos (by rfl) β a)) (hp0 : ∀ a, SameRow p0' p0 a (pos (by rfl) β a))
    (hx1 : ∀ a, SameRow x1' x1 a (pos (by rfl) β a)) (hp1 : ∀ a, SameRow p1' p1 a (pos (by rfl) β a))
    (hx2 : ∀ a, SameRow x2' x2 a (pos (by rfl) β a)) (hp2 : ∀ a, SameRow p2' p2 a (pos (by rfl) β a))
    (hx3 : ∀ a, SameRow x3' x3 a (pos (by rfl) β a)) (hp3 : ∀ a, SameRow p3' p3 a (pos (by rfl) β a))
    (hw31 : w31' = w31) (hw32 : w32' = w32) (hw21 : w21' = w21) (hw22 : w22' = w22) (hw11 : w11' = w11) (hw12 : w12' = w12) (hw13 : w13' = w13) (hl1 : l1' = l1) (hl2 : l2' = l2)
    (hb31 : ∀ j, b31' (ix2 0 j) = b31 (ix1 j))
    (hb32 : ∀ j, b32' (ix2 0 j) = b32 (ix1 j))
    (hb21 : ∀ j, b21' (ix2 0 j) = b21 (ix1 j))
    (hb22 : ∀ j, b22' (ix2 0 j) = b22 (ix1 j))
    (hb11 : ∀ j, b11' (ix2 0 j) = b11 (ix1 j))
    (hb12 : ∀ j, b12' (ix2 0 j) = b12 (ix1 j))
    (hb13 : ∀ j, b13' (ix2 0 j) = b13 (ix1 j))
    (hc1 : ∀ j, c1' (ix2 0 j) = c1 (ix1 j))
    (hc2 : ∀ j, c2' (ix2 0 j) = c2 (ix1 j))
    (i : Fin 1024) (j : Fin 3) :
    batchOut x0' p0' x1' p1' x2' p2' x3' p3' w31' b31' w32' b32' w21' b21' w22' b22' w11' b11' w12' b12' w13' b13' l1' c1' l2' c2' (ix2 i j)
      = refOut x0 p0 b0 x1 p1 b1 x2 p2 b2 x3 p3 b3 w31 b31 w32 b32 w21 b21 w22 b22 w11 b11 w12 b12 w13 b13 l1 c1 l2 c2 (ix2 (pos (B := 16) (k := 1024) (by rfl) β i) j) := by
  rw [hw31, hw32, hw21, hw22, hw11, hw12, hw13, hl1, hl2]
  have G3 := fun a : Fin 64 => group_of (n := 1024) (m := 256) (nl := 64) (ml := 16) (B := 16) (by rfl) (by rfl) b2 b3
    (grouped_read _ b2 _ D.batch2) (grouped_read _ b3 _ D.batch3) (by decide) (by decide) (by decide) β a
  have G2 := fun a : Fin 256 => group_of (n := 4096) (m := 1024) (nl := 256) (ml := 64) (B := 16) (by rfl) (by rfl) b1 b2
    (grouped_read _ b1 _ D.batch1) (grouped_read _ b2 _ D.batch2) (by decide) (by decide) (by decide) β a
  have G1 := fun a : Fin 1024 => group_of (n := 16384) (m := 4096) (nl := 1024) (ml := 256) (B := 16) (by rfl) (by rfl) b0 b1
    (grouped_read _ b0 _ D.batch0) (grouped_read _ b1 _ D.batch1) (by decide) (by decide) (by decide) β a
  unfold batchOut refOut
  have e3 := fun a : Fin 64 =>
    ((((SameRow.beside (rowOf fun e => level1 (G3 a) p2 p3 x3 (bounded_read p3 D.real3) p2' p3' x3' a (hp2 a) hp3 hx3 (by decide)
      (rises_read _ _ _ _ D.rises3 _) (by norm_num) takes_1024 e) (hx2 a) (show 1024 + 256 = 1280 from by norm_num)).dense w31 b31 b31' hb31).relu).dense w32 b32 b32' hb32).relu
  have e2 := fun a : Fin 256 =>
    ((((SameRow.beside (rowOf fun e => level3 (G2 a) p1 p2 _ (bounded_read p2 D.real2) p1' p2' _ a (hp1 a) hp2 e3 (by decide)
      (rises_read _ _ _ _ D.rises2 _) (by norm_num) takes_4096 e) (hx1 a) (show 256 + 128 = 384 from by norm_num)).dense w21 b21 b21' hb21).relu).dense w22 b22 b22' hb22).relu
  have e1 := fun a : Fin 1024 =>
    ((((((SameRow.beside (rowOf fun e => level3 (G1 a) p0 p1 _ (bounded_read p1 D.real1) p0' p1' _ a (hp0 a) hp1 e2 (by decide)
      (rises_read _ _ _ _ D.rises1 _) (by norm_num) takes_16384 e) (hx0 a) (show 128 + 10 = 138 from by norm_num)).dense w11 b11 b11' hb11).relu).dense w12 b12 b12' hb12).relu).dense
        w13 b13 b13' hb13).relu
  exact ((((e1 i).dense l1 c1 c1' hc1).relu).dense l2 c2 c2' hc2) j

end Cert.Cloud

end
-- ==== Proof.IdealRun.lean ====
/- The idealized kernel: the run of the launch.
   The launch's set-up follows the shape of the generated one; the body's obligation is proved here under a larger
   allowance of steps. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- the long axes of the arrays need deep recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg27`: the region finds it as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg28`: the region finds it as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg29`: the region finds it as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).2 main_arg8 (Pipeline.mem_restRefs_of main_arg8 (by decide) (by decide))).trans (V_main_arg8 m c),
      ((h c).1 6).trans (((dats 0 c).arrAt_in 6 rfl _).trans ((hA c 6).trans (V_main_arg9 m c))),
      ((h c).1 7).trans (((dats 0 c).arrAt_in 7 rfl _).trans ((hA c 7).trans (V_main_arg10 m c))),
      ((h c).2 main_arg11 (Pipeline.mem_restRefs_of main_arg11 (by decide) (by decide))).trans (V_main_arg11 m c),
      ((h c).1 8).trans (((dats 0 c).arrAt_in 8 rfl _).trans ((hA c 8).trans (V_main_arg12 m c))),
      ((h c).2 main_arg13 (Pipeline.mem_restRefs_of main_arg13 (by decide) (by decide))).trans (V_main_arg13 m c),
      ((h c).1 10).trans (((dats 0 c).arrAt_in 10 rfl _).trans ((hA c 10).trans (V_main_arg14 m c))),
      ((h c).2 main_arg15 (Pipeline.mem_restRefs_of main_arg15 (by decide) (by decide))).trans (V_main_arg15 m c),
      ((h c).1 12).trans (((dats 0 c).arrAt_in 12 rfl _).trans ((hA c 12).trans (V_main_arg16 m c))),
      ((h c).2 main_arg17 (Pipeline.mem_restRefs_of main_arg17 (by decide) (by decide))).trans (V_main_arg17 m c),
      ((h c).1 14).trans (((dats 0 c).arrAt_in 14 rfl _).trans ((hA c 14).trans (V_main_arg18 m c))),
      ((h c).2 main_arg19 (Pipeline.mem_restRefs_of main_arg19 (by decide) (by decide))).trans (V_main_arg19 m c),
      ((h c).1 16).trans (((dats 0 c).arrAt_in 16 rfl _).trans ((hA c 16).trans (V_main_arg20 m c))),
      ((h c).2 main_arg21 (Pipeline.mem_restRefs_of main_arg21 (by decide) (by decide))).trans (V_main_arg21 m c),
      ((h c).1 18).trans (((dats 0 c).arrAt_in 18 rfl _).trans ((hA c 18).trans (V_main_arg22 m c))),
      ((h c).2 main_arg23 (Pipeline.mem_restRefs_of main_arg23 (by decide) (by decide))).trans (V_main_arg23 m c),
      ((h c).1 20).trans (((dats 0 c).arrAt_in 20 rfl _).trans ((hA c 20).trans (V_main_arg24 m c))),
      ((h c).2 main_arg25 (Pipeline.mem_restRefs_of main_arg25 (by decide) (by decide))).trans (V_main_arg25 m c),
      ((h c).1 22).trans (((dats 0 c).arrAt_in 22 rfl _).trans ((hA c 22).trans (V_main_arg26 m c))),
      ((h c).2 main_arg27 (Pipeline.mem_restRefs_of main_arg27 (by decide) (by decide))).trans (V_main_arg27 m c),
      ((h c).1 24).trans (((dats 0 c).arrAt_in 24 rfl _).trans ((hA c 24).trans (V_main_arg28 m c))),
      ((h c).2 main_arg29 (Pipeline.mem_restRefs_of main_arg29 (by decide) (by decide))).trans (V_main_arg29 m c)⟩) h

/-! ## The body's accesses -/

abbrev r0_0 : Rect S128x3 := Rect.unit (s := S128x3) ![0, 0] S64x3.size inb_S128x3_S64x3_0_0
abbrev r0_1 : Rect S32x3 := Rect.unit (s := S32x3) ![0, 0] S16x3.size inb_S32x3_S16x3_0_0
abbrev r0_2 : Rect S512x3 := Rect.unit (s := S512x3) ![0, 0] S256x3.size inb_S512x3_S256x3_0_0
abbrev r0_3 : Rect S2048x3 := Rect.unit (s := S2048x3) ![0, 0] S1024x3.size inb_S2048x3_S1024x3_0_0
abbrev r0_4 : Rect S32x1024 := Rect.unit (s := S32x1024) ![0, 0] S16x1024.size inb_S32x1024_S16x1024_0_0
abbrev r0_5 : Rect S128x256 := Rect.unit (s := S128x256) ![0, 0] S64x256.size inb_S128x256_S64x256_0_0
abbrev r0_6 : Rect S1280x256 := Rect.unit (s := S1280x256) ![0, 0] S1280x256.size inb_S1280x256_S1280x256_0_0
abbrev r0_7 : Rect S1x256 := Rect.unit (s := S1x256) ![0, 0] S1x256.size inb_S1x256_S1x256_0_0
abbrev r0_8 : Rect S256x256 := Rect.unit (s := S256x256) ![0, 0] S256x256.size inb_S256x256_S256x256_0_0
abbrev r0_9 : Rect S512x128 := Rect.unit (s := S512x128) ![0, 0] S256x128.size inb_S512x128_S256x128_0_0
abbrev r0_10 : Rect S384x256 := Rect.unit (s := S384x256) ![0, 0] S384x256.size inb_S384x256_S384x256_0_0
abbrev r0_11 : Rect S256x128 := Rect.unit (s := S256x128) ![0, 0] S256x128.size inb_S256x128_S256x128_0_0
abbrev r0_12 : Rect S1x128 := Rect.unit (s := S1x128) ![0, 0] S1x128.size inb_S1x128_S1x128_0_0
abbrev r0_13 : Rect S2048x10 := Rect.unit (s := S2048x10) ![0, 0] S1024x10.size inb_S2048x10_S1024x10_0_0
abbrev r0_14 : Rect S138x128 := Rect.unit (s := S138x128) ![0, 0] S138x128.size inb_S138x128_S138x128_0_0
abbrev r0_15 : Rect S128x128 := Rect.unit (s := S128x128) ![0, 0] S128x128.size inb_S128x128_S128x128_0_0
abbrev r0_16 : Rect S128x3 := Rect.unit (s := S128x3) ![0, 0] S128x3.size inb_S128x3_S128x3_0_0
abbrev r0_17 : Rect S1x3 := Rect.unit (s := S1x3) ![0, 0] S1x3.size inb_S1x3_S1x3_0_0
abbrev r0_18 : Rect S128x3 := Rect.unit (s := S128x3) ![64, 0] S64x3.size inb_S128x3_S64x3_64_0
abbrev r0_19 : Rect S32x3 := Rect.unit (s := S32x3) ![16, 0] S16x3.size inb_S32x3_S16x3_16_0
abbrev r0_20 : Rect S512x3 := Rect.unit (s := S512x3) ![256, 0] S256x3.size inb_S512x3_S256x3_256_0
abbrev r0_21 : Rect S2048x3 := Rect.unit (s := S2048x3) ![1024, 0] S1024x3.size inb_S2048x3_S1024x3_1024_0
abbrev r0_22 : Rect S32x1024 := Rect.unit (s := S32x1024) ![16, 0] S16x1024.size inb_S32x1024_S16x1024_16_0
abbrev r0_23 : Rect S128x256 := Rect.unit (s := S128x256) ![64, 0] S64x256.size inb_S128x256_S64x256_64_0
abbrev r0_24 : Rect S512x128 := Rect.unit (s := S512x128) ![256, 0] S256x128.size inb_S512x128_S256x128_256_0
abbrev r0_25 : Rect S2048x10 := Rect.unit (s := S2048x10) ![1024, 0] S1024x10.size inb_S2048x10_S1024x10_1024_0

/-! ## What the body leaves in each output window's buffer -/

/-! ### Values of the body that the stores' payloads, spelt out, would write more than once

    Each is a vector the body binds (often a part call's result), stated over the input windows' blocks and
    numbered on from the skeleton's payload functions (`k0_pay48` …, after `k0_pay47`), so that
    `out0_W` and the values after it name it instead of spelling it out; the comment after each is the printed function's
    name for the value (a count appended where that name is bound again). -/

def k0_pay48 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S256x1 .f32 :=
  k0_pay3 (View.ld x3 r0_2) -- `v30`
def k0_pay49 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S64x1 .f32 :=
  k0_pay4 (View.ld x5 r0_0) -- `v33`
def k0_pay50 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S64x3 .f32 :=
  k0_pay5 (View.ld x5 r0_0) -- `v35`
def k0_pay51 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S64x1 .f32 :=
  k0_pay6 (F := F) -- `v36`
def k0_pay52 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S64x256 .f32 :=
  k0_pay27 (View.ld x3 r0_20) (View.ld x5 r0_18) -- `v259`
def k0_pay53 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S64x256 .f32 :=
  k0_pay29 (View.ld x3 r0_20) (View.ld x5 r0_18) -- `v262`
def k0_pay54 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S1024x1 .f32 :=
  k0_pay35 (View.ld x1 r0_21) -- `v302`
def k0_pay55 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : FVec F S256x3 .f32 :=
  k0_pay36 (View.ld x3 r0_20) -- `v303`

/-- Window 26's staging buffer after the body, from the input windows' blocks: its 2 stores as pieces, LAST
    FIRST (Lib/Pipeline/FrameBody.lean `View.canon`; the payloads are the skeleton's and the values stated above). -/
def out0_26 (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) : Vec F S2048x3 .f32 :=
  View.canon [⟨r0_21, k0_pay1 (k0_pay47 (k0_pay42 (View.ld x1 r0_21) (View.ld x3 r0_20) (k0_pay54 x0 x1 x2 x3 x4 x5 x6 x7 x8 x9 x10 x11 x12 x13 x14 x15 x16 x17 x18 x19 x20 x21 x22 x23 x24 x25) (k0_pay55 x0 x1 x2 x3 x4 x5 x6 x7 x8 x9 x10 x11 x12 x13 x14 x15 x16 x17 x18 x19 x20 x21 x22 x23 x24 x25)) (k0_pay45 (k0_pay43 (View.ld x1 r0_21) (View.ld x3 r0_20) (k0_pay54 x0 x1 x2 x3 x4 x5 x6 x7 x8 x9 x10 x11 x12 x13 x14 x15 x16 x17 x18 x19 x20 x21 x22 x23 x24 x25) (k0_pay55 x0 x1 x2 x3 x4 x5 x6 x7 x8 x9 x10 x11 x12 x13 x14 x15 x16 x17 x18 x19 x20 x21 x22 x23 x24 x25)) (k0_pay44 (View.ld x1 r0_21) (View.ld x3 r0_20) (k0_pay54 x0 x1 x2 x3 x4 x5 x6 x7 x8 x9 x10 x11 x12 x13 x14 x15 x16 x17 x18 x19 x20 x21 x22 x23 x24 x25) (k0_pay55 x0 x1 x2 x3 x4 x5 x6 x7 x8 x9 x10 x11 x12 x13 x14 x15 x16 x17 x18 x19 x20 x21 x22 x23 x24 x25))) (k0_pay46 (k0_pay26 (View.ld x5 r0_18) (View.ld x7 r0_19) (k0_pay25 (View.ld x5 r0_18))) (k0_pay33 (k0_pay52 x0 x1 x2 x3 x4 x5 x6 x7 x8 x9 x10 x11 x12 x13 x14 x15 x16 x17 x18 x19 x20 x21 x22 x23 x24 x25) (k0_pay53 x0 x1 x2 x3 x4 x5 x6 x7 x8 x9 x10 x11 x12 x13 x14 x15 x16 x17 x18 x19 x20 x21 x22 x23 x24 x25)) (k0_pay34 (k0_pay52 x0 x1 x2 x3 x4 x5 x6 x7 x8 x9 x10 x11 x12 x13 x14 x15 x16 x17 x18 x19 x20 x21 x22 x23 x24 x25) (k0_pay28 (View.ld x3 r0_20) (View.ld x5 r0_18)) (k0_pay53 x0 x1 x2 x3 x4 x5 x6 x7 x8 x9 x10 x11 x12 x13 x14 x15 x16 x17 x18 x19 x20 x21 x22 x23 x24 x25)) (View.ld x6 r0_22) (View.ld x4 r0_23) (View.ld x8 r0_6) (View.ld x9 r0_7) (View.ld x10 r0_8) (View.ld x11 r0_7) (View.ld x2 r0_24) (View.ld x12 r0_10)) (View.ld x13 r0_7) (View.ld x14 r0_11) (View.ld x15 r0_12) (View.ld x0 r0_25) (View.ld x16 r0_14) (View.ld x17 r0_12) (View.ld x18 r0_15) (View.ld x19 r0_12)) (View.ld x20 r0_15) (View.ld x21 r0_12) (View.ld x22 r0_15) (View.ld x23 r0_12) (View.ld x24 r0_16) (View.ld x25 r0_17)⟩,
    ⟨r0_3, k0_pay24 (k0_pay23 (k0_pay19 (View.ld x1 r0_3) (View.ld x3 r0_2)) (k0_pay21 (k0_pay17 (View.ld x1 r0_3) (View.ld x3 r0_2)) (k0_pay18 (View.ld x1 r0_3) (View.ld x3 r0_2)) (k0_pay20 (View.ld x1 r0_3) (View.ld x3 r0_2))) (k0_pay22 (k0_pay2 (View.ld x5 r0_0) (View.ld x7 r0_1)) (k0_pay12 (View.ld x3 r0_2) (k0_pay48 x0 x1 x2 x3 x4 x5 x6 x7 x8 x9 x10 x11 x12 x13 x14 x15 x16 x17 x18 x19 x20 x21 x22 x23 x24 x25) (k0_pay49 x0 x1 x2 x3 x4 x5 x6 x7 x8 x9 x10 x11 x12 x13 x14 x15 x16 x17 x18 x19 x20 x21 x22 x23 x24 x25) (k0_pay50 x0 x1 x2 x3 x4 x5 x6 x7 x8 x9 x10 x11 x12 x13 x14 x15 x16 x17 x18 x19 x20 x21 x22 x23 x24 x25) (k0_pay51 x0 x1 x2 x3 x4 x5 x6 x7 x8 x9 x10 x11 x12 x13 x14 x15 x16 x17 x18 x19 x20 x21 x22 x23 x24 x25)) (k0_pay13 (View.ld x3 r0_2) (k0_pay48 x0 x1 x2 x3 x4 x5 x6 x7 x8 x9 x10 x11 x12 x13 x14 x15 x16 x17 x18 x19 x20 x21 x22 x23 x24 x25) (k0_pay49 x0 x1 x2 x3 x4 x5 x6 x7 x8 x9 x10 x11 x12 x13 x14 x15 x16 x17 x18 x19 x20 x21 x22 x23 x24 x25) (k0_pay50 x0 x1 x2 x3 x4 x5 x6 x7 x8 x9 x10 x11 x12 x13 x14 x15 x16 x17 x18 x19 x20 x21 x22 x23 x24 x25) (k0_pay51 x0 x1 x2 x3 x4 x5 x6 x7 x8 x9 x10 x11 x12 x13 x14 x15 x16 x17 x18 x19 x20 x21 x22 x23 x24 x25)) (View.ld x6 r0_4) (View.ld x4 r0_5) (View.ld x8 r0_6) (View.ld x9 r0_7) (View.ld x10 r0_8) (View.ld x11 r0_7)) (View.ld x2 r0_9) (View.ld x12 r0_10) (View.ld x13 r0_7) (View.ld x14 r0_11) (View.ld x15 r0_12) (View.ld x0 r0_13) (View.ld x16 r0_14) (View.ld x17 r0_12) (View.ld x18 r0_15)) (View.ld x19 r0_12) (View.ld x20 r0_15) (View.ld x21 r0_12) (View.ld x22 r0_15) (View.ld x23 r0_12) (View.ld x24 r0_16) (View.ld x25 r0_17)⟩]

/-- Its stores tile the buffer (checked by evaluation), so they cover it. -/
theorem cover0_26 (p0 : Vec F S1024x3 .f32) (p1 : Vec F S1024x3 .f32) (y : S2048x3.Idx) :
    ∃ pc ∈ ([⟨r0_21, p0⟩, ⟨r0_3, p1⟩] : List (View.Piece (Elt F) S2048x3 .f32)), y ∈ pc.1.set :=
  View.cover_of_tiled [⟨r0_21, p0⟩, ⟨r0_3, p1⟩] S1024x3.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S2048x10 .f32) (harg1 : arg1.IsWhole) (arg2 : Memref sig .tc .vmem S2048x3 .f32) (harg2 : arg2.IsWhole) (arg3 : Memref sig .tc .vmem S512x128 .f32) (harg3 : arg3.IsWhole) (arg4 : Memref sig .tc .vmem S512x3 .f32) (harg4 : arg4.IsWhole) (arg5 : Memref sig .tc .vmem S128x256 .f32) (harg5 : arg5.IsWhole) (arg6 : Memref sig .tc .vmem S128x3 .f32) (harg6 : arg6.IsWhole) (arg7 : Memref sig .tc .vmem S32x1024 .f32) (harg7 : arg7.IsWhole) (arg8 : Memref sig .tc .vmem S32x3 .f32) (harg8 : arg8.IsWhole) (arg9 : Memref sig .tc .vmem S1280x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S384x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S138x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S128x128 .f32) (harg23 : arg23.IsWhole) (arg24 : Memref sig .tc .vmem S1x128 .f32) (harg24 : arg24.IsWhole) (arg25 : Memref sig .tc .vmem S128x3 .f32) (harg25 : arg25.IsWhole) (arg26 : Memref sig .tc .vmem S1x3 .f32) (harg26 : arg26.IsWhole) (arg27 : Memref sig .tc .vmem S2048x3 .f32) (harg27 : arg27.IsWhole)
    (x0 : Vec F S2048x10 .f32) (x1 : Vec F S2048x3 .f32) (x2 : Vec F S512x128 .f32) (x3 : Vec F S512x3 .f32) (x4 : Vec F S128x256 .f32) (x5 : Vec F S128x3 .f32) (x6 : Vec F S32x1024 .f32) (x7 : Vec F S32x3 .f32) (x8 : Vec F S1280x256 .f32) (x9 : Vec F S1x256 .f32) (x10 : Vec F S256x256 .f32) (x11 : Vec F S1x256 .f32) (x12 : Vec F S384x256 .f32) (x13 : Vec F S1x256 .f32) (x14 : Vec F S256x128 .f32) (x15 : Vec F S1x128 .f32) (x16 : Vec F S138x128 .f32) (x17 : Vec F S1x128 .f32) (x18 : Vec F S128x128 .f32) (x19 : Vec F S1x128 .f32) (x20 : Vec F S128x128 .f32) (x21 : Vec F S1x128 .f32) (x22 : Vec F S128x128 .f32) (x23 : Vec F S1x128 .f32) (x24 : Vec F S128x3 .f32) (x25 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out0_26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__decoder_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__decoder_body_eq_skeleton]; unfold cc0__decoder_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  refine (View.read_writes_eq_canon _ _ _ (cover0_26 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- matching `θ_run_frame`'s conclusion with this one takes unfolding plain definitions
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (unchanged m ρ) ((θ_run defs _ _).mono (fun _ h => h.2) (run_main_quiescent m ρ))

end Cert.KernelIdeal.Gen

end
-- ==== Proof.IdealBlocks.lean ====
/- The idealized kernel's result array after the run: what each grid point writes back, and that the array read back
   through a point's block is what that point wrote. -/
module

public import proofs.«01_k».proof.Proof.IdealRun
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 26's array: the body's result for that window (`Gen.out0_26`: its stores
    as pieces over the input windows' blocks), read through the window's block. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 26).cut (grid0.coords t) ((dats m 0 c).after 26 t) = _
  rw [after0_26]

/-- The index map sends distinct grid points to distinct block indices (decided over the 8 points). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S16384x3.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v9) = (dats m 0 c).arrAt 26 cfg0.N :=
  (h c).1 26

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 4 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 4).trans (((dats m 0 c).arrAt_in 4 rfl _).trans ((A_eq m c 4).trans (V_main_arg6 m c)))

/-- After the frame run, argument `main_arg7` is as launched: input window 5 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 5).trans (((dats m 0 c).arrAt_in 5 rfl _).trans ((A_eq m c 5).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 6 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 6).trans (((dats m 0 c).arrAt_in 6 rfl _).trans ((A_eq m c 6).trans (V_main_arg9 m c)))

/-- After the frame run, argument `main_arg10` is as launched: input window 7 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 7).trans (((dats m 0 c).arrAt_in 7 rfl _).trans ((A_eq m c 7).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: input window 8 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 8).trans (((dats m 0 c).arrAt_in 8 rfl _).trans ((A_eq m c 8).trans (V_main_arg12 m c)))

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 10 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 10).trans (((dats m 0 c).arrAt_in 10 rfl _).trans ((A_eq m c 10).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: input window 12 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 12).trans (((dats m 0 c).arrAt_in 12 rfl _).trans ((A_eq m c 12).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 14 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 14).trans (((dats m 0 c).arrAt_in 14 rfl _).trans ((A_eq m c 14).trans (V_main_arg18 m c)))

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: input window 16 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 16).trans (((dats m 0 c).arrAt_in 16 rfl _).trans ((A_eq m c 16).trans (V_main_arg20 m c)))

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: input window 18 stages it and never writes it back. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 18).trans (((dats m 0 c).arrAt_in 18 rfl _).trans ((A_eq m c 18).trans (V_main_arg22 m c)))

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: input window 20 stages it and never writes it back. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 20).trans (((dats m 0 c).arrAt_in 20 rfl _).trans ((A_eq m c 20).trans (V_main_arg24 m c)))

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: input window 22 stages it and never writes it back. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).1 22).trans (((dats m 0 c).arrAt_in 22 rfl _).trans ((A_eq m c 22).trans (V_main_arg26 m c)))

/-- After the frame run, argument `main_arg27` is as launched: no window stages it, and the run leaves the region's other buffers as they were. -/
theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).2 main_arg27 (Pipeline.mem_restRefs_of main_arg27 (by decide) (by decide))).trans (V_main_arg27 m c)

/-- After the frame run, argument `main_arg28` is as launched: input window 24 stages it and never writes it back. -/
theorem kept_main_arg28 (r : PUnit × MemSt nD τ sig (Elt F)) (h : Pipeline.FramePost cfgs (dats m) 0 (V m) r) (c : Dev nD) :
    r.2.mem ((c : Thread nD τ).loc main_arg28) = m ((c : Thread nD τ).loc main_arg28) :=
  ((h c).1 24).trans (((dats m 0 c).arrAt_in 24 rfl _).trans ((A_eq m c 24).trans (V_main_arg28 m c)))

/-- After the frame run, argument `main_arg29` is as launched: no window stages it, and the run leaves the region's other buffers as they were. -/
theorem kept_main_arg29 (r : PUnit × MemSt nD τ sig (Elt F)) (h : Pipeline.FramePost cfgs (dats m) 0 (V m) r) (c : Dev nD) :
    r.2.mem ((c : Thread nD τ).loc main_arg29) = m ((c : Thread nD τ).loc main_arg29) :=
  ((h c).2 main_arg29 (Pipeline.mem_restRefs_of main_arg29 (by decide) (by decide))).trans (V_main_arg29 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29) :=
  (θ_run defs _ _).mono (fun r h c => ⟨post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c,
      kept_main_arg29 m r h c⟩)
    (run_main m ρ)

end Cert.KernelIdeal.Value

end
-- ==== Proof.Blocks.lean ====
/-
  The blocks that a grid step reads: rows of the arrays, the weights whole, a bias as one row.
-/
module

public import proofs.«01_k».proof.Proof.Batch
public import proofs.«01_k».proof.Proof.IdealBlocks
public import Idealize.ShloMosaic.Lib.Pipeline.ValueKit.Tiles
public import Idealize.ShloMosaic.Lib.ValueLayout

@[expose] public section

noncomputable section

namespace Cert.Cloud

open Idealize.ShloMosaic hiding ix0 ix1 ix2 ix3 ix4 ix5
open Idealize.ShloMosaic.ValueIdx Idealize.ShloMosaic.TcCoe
open Cert.KernelIdeal Cert.KernelIdeal.Gen

/-! ## A tile of rows, read at an index -/

/-- An element whose row lies in tile `t` of `n` rows, and whose column lies in the one tile of columns. -/
theorem tile_at {B N n k : ℕ} (hN : N = B * n) (X : Mat N k) (y : (M2 N k).Idx) (t : Fin B) (a : Fin n) (e : Fin k) {i0 i1 : ℕ}
    (h0 : (y 0 : ℕ) = i0 * n + a.val) (hi0 : i0 = t.val) (h1 : (y 1 : ℕ) = i1 * k + e.val) (hi1 : i1 = 0) :
    X y = X (ix2 (pos hN t a) e) := by
  subst hi0 hi1
  congr 1
  funext ax
  match ax with
  | ⟨0, _⟩ => exact Fin.ext h0
  | ⟨1, _⟩ => exact Fin.ext (h1.trans (by rw [Nat.zero_mul, Nat.zero_add]))

/-- An element of the one tile. -/
theorem only_at {n k : ℕ} (X : Mat n k) (y : (M2 n k).Idx) (a : Fin n) (e : Fin k) {i0 i1 : ℕ}
    (h0 : (y 0 : ℕ) = i0 * n + a.val) (hi0 : i0 = 0) (h1 : (y 1 : ℕ) = i1 * k + e.val) (hi1 : i1 = 0) :
    X y = X (ix2 a e) := by
  subst hi0 hi1
  congr 1
  funext ax
  match ax with
  | ⟨0, _⟩ => exact Fin.ext (h0.trans (by rw [Nat.zero_mul, Nat.zero_add]))
  | ⟨1, _⟩ => exact Fin.ext (h1.trans (by rw [Nat.zero_mul, Nat.zero_add]))

/-- Half `h` of a block holds the rows of batch `2 t + h`, when the block holds the rows of tile `t`. -/
theorem half_rows {N n k c : ℕ} (hn : n = 2 * k) (hN : N = 8 * n) (hB : N = 16 * k) (x : Mat n c) (X : Mat N c) (t : Fin 8)
    (H : ∀ a e, x (ix2 a e) = X (ix2 (pos hN t a) e)) (h : Fin 2) (off : Fin 2 → ℕ)
    (inb : ∀ a, off a + (M2 k c).size a ≤ (M2 n c).size a) (h0 : off 0 = h.val * k) (h1 : off 1 = 0) (a : Fin k) :
    SameRow (View.ld (Val := Elt Ideal) (e' := .f32) x (Rect.unit (s := M2 n c) off (M2 k c).size inb)) X a
      (pos hB (pos (a := 16) (B := 8) (k := 2) (by rfl) t h) a) := fun e => by
  refine (View.ld_unit_apply_of (Val := Elt Ideal) (e := .f32) x off (M2 k c).size inb (ix2 a e) (ix2 (pos hn h a) e) fun ax => ?_).trans ?_
  · match ax with
    | ⟨0, _⟩ => exact congrArg (· + a.val) h0.symm
    | ⟨1, _⟩ => exact (Nat.zero_add _).symm.trans (congrArg (· + e.val) h1.symm)
  · rw [H]
    congr 2
    refine Fin.ext ?_
    show t.val * n + (h.val * k + a.val) = (t.val * 2 + h.val) * k + a.val
    rw [hn]
    ring

/-- An index is its row and its column. -/
theorem ix2_self {n k : ℕ} (y : (M2 n k).Idx) : ix2 (n0 := n) (n1 := k) (y 0) (y 1) = y := by
  funext ax
  match ax with
  | ⟨0, _⟩ => rfl
  | ⟨1, _⟩ => rfl

/-- A load of the whole of a block that holds an array, is the array. -/
theorem whole_block {n k : ℕ} (x X : Mat n k) (H : ∀ a e, x (ix2 a e) = X (ix2 a e)) (off : Fin 2 → ℕ) (ho : ∀ a, off a = 0)
    (inb : ∀ a, off a + (M2 n k).size a ≤ (M2 n k).size a) :
    View.ld (Val := Elt Ideal) (e' := .f32) x (Rect.unit (s := M2 n k) off (M2 n k).size inb) = X := by
  refine (View.ld_unit_zero (Val := Elt Ideal) (e := .f32) (funext ho) inb x).trans (funext fun y => ?_)
  exact (congrArg x (ix2_self y)).symm.trans ((H (y 0) (y 1)).trans (congrArg X (ix2_self y)))

/-- A load of the whole of a block that holds a vector as one row, read. -/
theorem whole_row {k : ℕ} (x : Mat 1 k) (b : Arr k) (H : ∀ j, x (ix2 0 j) = b (ix1 j)) (off : Fin 2 → ℕ) (ho : ∀ a, off a = 0)
    (inb : ∀ a, off a + (M2 1 k).size a ≤ (M2 1 k).size a) (j : Fin k) :
    View.ld (Val := Elt Ideal) (e' := .f32) x (Rect.unit (s := M2 1 k) off (M2 1 k).size inb) (ix2 0 j) = b (ix1 j) :=
  (congrFun (View.ld_unit_zero (Val := Elt Ideal) (e := .f32) (funext ho) inb x) _).trans (H j)

/-! ## What each window holds at a step -/

variable (m : (ℓ : Loc nD τ sig) → Buf (Elt Ideal) ℓ) (c : Dev nD) (t : Fin cfg0.N)

theorem block0 (a : Fin 2048) (e : Fin 10) :
    (iblk m c 0 t : Mat 2048 10) (ix2 a e) = (m ((c : Thread nD τ).loc main_arg0) : Mat 16384 10) (ix2 (pos (B := 8) (by rfl) t a) e) :=
  (congrFun (V_main_arg0 m c) _).trans (tile_at (by rfl) _ _ t a e (win0_0.rect_emb_val t (ix2 a e) 0)
    ((by decide : ∀ t : Fin grid0.N, win0_0.index t 0 = t.val) t) (win0_0.rect_emb_val t (ix2 a e) 1)
    ((by decide : ∀ t : Fin grid0.N, win0_0.index t 1 = 0) t))

theorem block1 (a : Fin 2048) (e : Fin 3) :
    (iblk m c 1 t : Mat 2048 3) (ix2 a e) = (m ((c : Thread nD τ).loc main_arg1) : Mat 16384 3) (ix2 (pos (B := 8) (by rfl) t a) e) :=
  (congrFun (V_main_arg1 m c) _).trans (tile_at (by rfl) _ _ t a e (win0_1.rect_emb_val t (ix2 a e) 0)
    ((by decide : ∀ t : Fin grid0.N, win0_1.index t 0 = t.val) t) (win0_1.rect_emb_val t (ix2 a e) 1)
    ((by decide : ∀ t : Fin grid0.N, win0_1.index t 1 = 0) t))

theorem block2 (a : Fin 512) (e : Fin 128) :
    (iblk m c 2 t : Mat 512 128) (ix2 a e) = (m ((c : Thread nD τ).loc main_arg3) : Mat 4096 128) (ix2 (pos (B := 8) (by rfl) t a) e) :=
  (congrFun (V_main_arg3 m c) _).trans (tile_at (by rfl) _ _ t a e (win0_2.rect_emb_val t (ix2 a e) 0)
    ((by decide : ∀ t : Fin grid0.N, win0_2.index t 0 = t.val) t) (win0_2.rect_emb_val t (ix2 a e) 1)
    ((by decide : ∀ t : Fin grid0.N, win0_2.index t 1 = 0) t))

theorem block3 (a : Fin 512) (e : Fin 3) :
    (iblk m c 3 t : Mat 512 3) (ix2 a e) = (m ((c : Thread nD τ).loc main_arg4) : Mat 4096 3) (ix2 (pos (B := 8) (by rfl) t a) e) :=
  (congrFun (V_main_arg4 m c) _).trans (tile_at (by rfl) _ _ t a e (win0_3.rect_emb_val t (ix2 a e) 0)
    ((by decide : ∀ t : Fin grid0.N, win0_3.index t 0 = t.val) t) (win0_3.rect_emb_val t (ix2 a e) 1)
    ((by decide : ∀ t : Fin grid0.N, win0_3.index t 1 = 0) t))

theorem block4 (a : Fin 128) (e : Fin 256) :
    (iblk m c 4 t : Mat 128 256) (ix2 a e) = (m ((c : Thread nD τ).loc main_arg6) : Mat 1024 256) (ix2 (pos (B := 8) (by rfl) t a) e) :=
  (congrFun (V_main_arg6 m c) _).trans (tile_at (by rfl) _ _ t a e (win0_4.rect_emb_val t (ix2 a e) 0)
    ((by decide : ∀ t : Fin grid0.N, win0_4.index t 0 = t.val) t) (win0_4.rect_emb_val t (ix2 a e) 1)
    ((by decide : ∀ t : Fin grid0.N, win0_4.index t 1 = 0) t))

theorem block5 (a : Fin 128) (e : Fin 3) :
    (iblk m c 5 t : Mat 128 3) (ix2 a e) = (m ((c : Thread nD τ).loc main_arg7) : Mat 1024 3) (ix2 (pos (B := 8) (by rfl) t a) e) :=
  (congrFun (V_main_arg7 m c) _).trans (tile_at (by rfl) _ _ t a e (win0_5.rect_emb_val t (ix2 a e) 0)
    ((by decide : ∀ t : Fin grid0.N, win0_5.index t 0 = t.val) t) (win0_5.rect_emb_val t (ix2 a e) 1)
    ((by decide : ∀ t : Fin grid0.N, win0_5.index t 1 = 0) t))

theorem block6 (a : Fin 32) (e : Fin 1024) :
    (iblk m c 6 t : Mat 32 1024) (ix2 a e) = (m ((c : Thread nD τ).loc main_arg9) : Mat 256 1024) (ix2 (pos (B := 8) (by rfl) t a) e) :=
  (congrFun (V_main_arg9 m c) _).trans (tile_at (by rfl) _ _ t a e (win0_6.rect_emb_val t (ix2 a e) 0)
    ((by decide : ∀ t : Fin grid0.N, win0_6.index t 0 = t.val) t) (win0_6.rect_emb_val t (ix2 a e) 1)
    ((by decide : ∀ t : Fin grid0.N, win0_6.index t 1 = 0) t))

theorem block7 (a : Fin 32) (e : Fin 3) :
    (iblk m c 7 t : Mat 32 3) (ix2 a e) = (m ((c : Thread nD τ).loc main_arg10) : Mat 256 3) (ix2 (pos (B := 8) (by rfl) t a) e) :=
  (congrFun (V_main_arg10 m c) _).trans (tile_at (by rfl) _ _ t a e (win0_7.rect_emb_val t (ix2 a e) 0)
    ((by decide : ∀ t : Fin grid0.N, win0_7.index t 0 = t.val) t) (win0_7.rect_emb_val t (ix2 a e) 1)
    ((by decide : ∀ t : Fin grid0.N, win0_7.index t 1 = 0) t))

theorem block8 (a : Fin 1280) (e : Fin 256) :
    (iblk m c 8 t : Mat 1280 256) (ix2 a e) = (m ((c : Thread nD τ).loc main_arg12) : Mat 1280 256) (ix2 a e) :=
  (congrFun (V_main_arg12 m c) _).trans (only_at _ _ a e (win0_8.rect_emb_val t (ix2 a e) 0)
    ((by decide : ∀ t : Fin grid0.N, win0_8.index t 0 = 0) t) (win0_8.rect_emb_val t (ix2 a e) 1)
    ((by decide : ∀ t : Fin grid0.N, win0_8.index t 1 = 0) t))

theorem block10 (a : Fin 256) (e : Fin 256) :
    (iblk m c 10 t : Mat 256 256) (ix2 a e) = (m ((c : Thread nD τ).loc main_arg14) : Mat 256 256) (ix2 a e) :=
  (congrFun (V_main_arg14 m c) _).trans (only_at _ _ a e (win0_10.rect_emb_val t (ix2 a e) 0)
    ((by decide : ∀ t : Fin grid0.N, win0_10.index t 0 = 0) t) (win0_10.rect_emb_val t (ix2 a e) 1)
    ((by decide : ∀ t : Fin grid0.N, win0_10.index t 1 = 0) t))

theorem block12 (a : Fin 384) (e : Fin 256) :
    (iblk m c 12 t : Mat 384 256) (ix2 a e) = (m ((c : Thread nD τ).loc main_arg16) : Mat 384 256) (ix2 a e) :=
  (congrFun (V_main_arg16 m c) _).trans (only_at _ _ a e (win0_12.rect_emb_val t (ix2 a e) 0)
    ((by decide : ∀ t : Fin grid0.N, win0_12.index t 0 = 0) t) (win0_12.rect_emb_val t (ix2 a e) 1)
    ((by decide : ∀ t : Fin grid0.N, win0_12.index t 1 = 0) t))

theorem block14 (a : Fin 256) (e : Fin 128) :
    (iblk m c 14 t : Mat 256 128) (ix2 a e) = (m ((c : Thread nD τ).loc main_arg18) : Mat 256 128) (ix2 a e) :=
  (congrFun (V_main_arg18 m c) _).trans (only_at _ _ a e (win0_14.rect_emb_val t (ix2 a e) 0)
    ((by decide : ∀ t : Fin grid0.N, win0_14.index t 0 = 0) t) (win0_14.rect_emb_val t (ix2 a e) 1)
    ((by decide : ∀ t : Fin grid0.N, win0_14.index t 1 = 0) t))

theorem block16 (a : Fin 138) (e : Fin 128) :
    (iblk m c 16 t : Mat 138 128) (ix2 a e) = (m ((c : Thread nD τ).loc main_arg20) : Mat 138 128) (ix2 a e) :=
  (congrFun (V_main_arg20 m c) _).trans (only_at _ _ a e (win0_16.rect_emb_val t (ix2 a e) 0)
    ((by decide : ∀ t : Fin grid0.N, win0_16.index t 0 = 0) t) (win0_16.rect_emb_val t (ix2 a e) 1)
    ((by decide : ∀ t : Fin grid0.N, win0_16.index t 1 = 0) t))

theorem block18 (a : Fin 128) (e : Fin 128) :
    (iblk m c 18 t : Mat 128 128) (ix2 a e) = (m ((c : Thread nD τ).loc main_arg22) : Mat 128 128) (ix2 a e) :=
  (congrFun (V_main_arg22 m c) _).trans (only_at _ _ a e (win0_18.rect_emb_val t (ix2 a e) 0)
    ((by decide : ∀ t : Fin grid0.N, win0_18.index t 0 = 0) t) (win0_18.rect_emb_val t (ix2 a e) 1)
    ((by decide : ∀ t : Fin grid0.N, win0_18.index t 1 = 0) t))

theorem block20 (a : Fin 128) (e : Fin 128) :
    (iblk m c 20 t : Mat 128 128) (ix2 a e) = (m ((c : Thread nD τ).loc main_arg24) : Mat 128 128) (ix2 a e) :=
  (congrFun (V_main_arg24 m c) _).trans (only_at _ _ a e (win0_20.rect_emb_val t (ix2 a e) 0)
    ((by decide : ∀ t : Fin grid0.N, win0_20.index t 0 = 0) t) (win0_20.rect_emb_val t (ix2 a e) 1)
    ((by decide : ∀ t : Fin grid0.N, win0_20.index t 1 = 0) t))

theorem block22 (a : Fin 128) (e : Fin 128) :
    (iblk m c 22 t : Mat 128 128) (ix2 a e) = (m ((c : Thread nD τ).loc main_arg26) : Mat 128 128) (ix2 a e) :=
  (congrFun (V_main_arg26 m c) _).trans (only_at _ _ a e (win0_22.rect_emb_val t (ix2 a e) 0)
    ((by decide : ∀ t : Fin grid0.N, win0_22.index t 0 = 0) t) (win0_22.rect_emb_val t (ix2 a e) 1)
    ((by decide : ∀ t : Fin grid0.N, win0_22.index t 1 = 0) t))

theorem block24 (a : Fin 128) (e : Fin 3) :
    (iblk m c 24 t : Mat 128 3) (ix2 a e) = (m ((c : Thread nD τ).loc main_arg28) : Mat 128 3) (ix2 a e) :=
  (congrFun (V_main_arg28 m c) _).trans (only_at _ _ a e (win0_24.rect_emb_val t (ix2 a e) 0)
    ((by decide : ∀ t : Fin grid0.N, win0_24.index t 0 = 0) t) (win0_24.rect_emb_val t (ix2 a e) 1)
    ((by decide : ∀ t : Fin grid0.N, win0_24.index t 1 = 0) t))

theorem bias9 : V m c main_v0 = shapeCast S1x256 (m ((c : Thread nD τ).loc main_arg13)) shapeCasts_S256_S1x256 := by
  simp only [V, StableHlo.after_cons, StableHlo.after_nil]
  rfl

theorem block9 (j : Fin 256) :
    (iblk m c 9 t : Mat 1 256) (ix2 0 j) = (m ((c : Thread nD τ).loc main_arg13) : Arr 256) (ix1 j) :=
  ((congrFun (bias9 m c) _).trans (only_at _ _ 0 j (win0_9.rect_emb_val t (ix2 0 j) 0)
    ((by decide : ∀ t : Fin grid0.N, win0_9.index t 0 = 0) t) (win0_9.rect_emb_val t (ix2 0 j) 1)
    ((by decide : ∀ t : Fin grid0.N, win0_9.index t 1 = 0) t))).trans (shapeCast_a_1a_apply _ _ _ _)

theorem bias11 : V m c main_v1 = shapeCast S1x256 (m ((c : Thread nD τ).loc main_arg15)) shapeCasts_S256_S1x256 := by
  simp only [V, StableHlo.after_cons, StableHlo.after_nil]
  rfl

theorem block11 (j : Fin 256) :
    (iblk m c 11 t : Mat 1 256) (ix2 0 j) = (m ((c : Thread nD τ).loc main_arg15) : Arr 256) (ix1 j) :=
  ((congrFun (bias11 m c) _).trans (only_at _ _ 0 j (win0_11.rect_emb_val t (ix2 0 j) 0)
    ((by decide : ∀ t : Fin grid0.N, win0_11.index t 0 = 0) t) (win0_11.rect_emb_val t (ix2 0 j) 1)
    ((by decide : ∀ t : Fin grid0.N, win0_11.index t 1 = 0) t))).trans (shapeCast_a_1a_apply _ _ _ _)

theorem bias13 : V m c main_v2 = shapeCast S1x256 (m ((c : Thread nD τ).loc main_arg17)) shapeCasts_S256_S1x256 := by
  simp only [V, StableHlo.after_cons, StableHlo.after_nil]
  rfl

theorem block13 (j : Fin 256) :
    (iblk m c 13 t : Mat 1 256) (ix2 0 j) = (m ((c : Thread nD τ).loc main_arg17) : Arr 256) (ix1 j) :=
  ((congrFun (bias13 m c) _).trans (only_at _ _ 0 j (win0_13.rect_emb_val t (ix2 0 j) 0)
    ((by decide : ∀ t : Fin grid0.N, win0_13.index t 0 = 0) t) (win0_13.rect_emb_val t (ix2 0 j) 1)
    ((by decide : ∀ t : Fin grid0.N, win0_13.index t 1 = 0) t))).trans (shapeCast_a_1a_apply _ _ _ _)

theorem bias15 : V m c main_v3 = shapeCast S1x128 (m ((c : Thread nD τ).loc main_arg19)) shapeCasts_S128_S1x128 := by
  simp only [V, StableHlo.after_cons, StableHlo.after_nil]
  rfl

theorem block15 (j : Fin 128) :
    (iblk m c 15 t : Mat 1 128) (ix2 0 j) = (m ((c : Thread nD τ).loc main_arg19) : Arr 128) (ix1 j) :=
  ((congrFun (bias15 m c) _).trans (only_at _ _ 0 j (win0_15.rect_emb_val t (ix2 0 j) 0)
    ((by decide : ∀ t : Fin grid0.N, win0_15.index t 0 = 0) t) (win0_15.rect_emb_val t (ix2 0 j) 1)
    ((by decide : ∀ t : Fin grid0.N, win0_15.index t 1 = 0) t))).trans (shapeCast_a_1a_apply _ _ _ _)

theorem bias17 : V m c main_v4 = shapeCast S1x128 (m ((c : Thread nD τ).loc main_arg21)) shapeCasts_S128_S1x128 := by
  simp only [V, StableHlo.after_cons, StableHlo.after_nil]
  rfl

theorem block17 (j : Fin 128) :
    (iblk m c 17 t : Mat 1 128) (ix2 0 j) = (m ((c : Thread nD τ).loc main_arg21) : Arr 128) (ix1 j) :=
  ((congrFun (bias17 m c) _).trans (only_at _ _ 0 j (win0_17.rect_emb_val t (ix2 0 j) 0)
    ((by decide : ∀ t : Fin grid0.N, win0_17.index t 0 = 0) t) (win0_17.rect_emb_val t (ix2 0 j) 1)
    ((by decide : ∀ t : Fin grid0.N, win0_17.index t 1 = 0) t))).trans (shapeCast_a_1a_apply _ _ _ _)

theorem bias19 : V m c main_v5 = shapeCast S1x128 (m ((c : Thread nD τ).loc main_arg23)) shapeCasts_S128_S1x128 := by
  simp only [V, StableHlo.after_cons, StableHlo.after_nil]
  rfl

theorem block19 (j : Fin 128) :
    (iblk m c 19 t : Mat 1 128) (ix2 0 j) = (m ((c : Thread nD τ).loc main_arg23) : Arr 128) (ix1 j) :=
  ((congrFun (bias19 m c) _).trans (only_at _ _ 0 j (win0_19.rect_emb_val t (ix2 0 j) 0)
    ((by decide : ∀ t : Fin grid0.N, win0_19.index t 0 = 0) t) (win0_19.rect_emb_val t (ix2 0 j) 1)
    ((by decide : ∀ t : Fin grid0.N, win0_19.index t 1 = 0) t))).trans (shapeCast_a_1a_apply _ _ _ _)

theorem bias21 : V m c main_v6 = shapeCast S1x128 (m ((c : Thread nD τ).loc main_arg25)) shapeCasts_S128_S1x128 := by
  simp only [V, StableHlo.after_cons, StableHlo.after_nil]
  rfl

theorem block21 (j : Fin 128) :
    (iblk m c 21 t : Mat 1 128) (ix2 0 j) = (m ((c : Thread nD τ).loc main_arg25) : Arr 128) (ix1 j) :=
  ((congrFun (bias21 m c) _).trans (only_at _ _ 0 j (win0_21.rect_emb_val t (ix2 0 j) 0)
    ((by decide : ∀ t : Fin grid0.N, win0_21.index t 0 = 0) t) (win0_21.rect_emb_val t (ix2 0 j) 1)
    ((by decide : ∀ t : Fin grid0.N, win0_21.index t 1 = 0) t))).trans (shapeCast_a_1a_apply _ _ _ _)

theorem bias23 : V m c main_v7 = shapeCast S1x128 (m ((c : Thread nD τ).loc main_arg27)) shapeCasts_S128_S1x128 := by
  simp only [V, StableHlo.after_cons, StableHlo.after_nil]
  rfl

theorem block23 (j : Fin 128) :
    (iblk m c 23 t : Mat 1 128) (ix2 0 j) = (m ((c : Thread nD τ).loc main_arg27) : Arr 128) (ix1 j) :=
  ((congrFun (bias23 m c) _).trans (only_at _ _ 0 j (win0_23.rect_emb_val t (ix2 0 j) 0)
    ((by decide : ∀ t : Fin grid0.N, win0_23.index t 0 = 0) t) (win0_23.rect_emb_val t (ix2 0 j) 1)
    ((by decide : ∀ t : Fin grid0.N, win0_23.index t 1 = 0) t))).trans (shapeCast_a_1a_apply _ _ _ _)

theorem bias25 : V m c main_v8 = shapeCast S1x3 (m ((c : Thread nD τ).loc main_arg29)) shapeCasts_S3_S1x3 := by
  simp only [V, StableHlo.after_cons, StableHlo.after_nil]
  rfl

theorem block25 (j : Fin 3) :
    (iblk m c 25 t : Mat 1 3) (ix2 0 j) = (m ((c : Thread nD τ).loc main_arg29) : Arr 3) (ix1 j) :=
  ((congrFun (bias25 m c) _).trans (only_at _ _ 0 j (win0_25.rect_emb_val t (ix2 0 j) 0)
    ((by decide : ∀ t : Fin grid0.N, win0_25.index t 0 = 0) t) (win0_25.rect_emb_val t (ix2 0 j) 1)
    ((by decide : ∀ t : Fin grid0.N, win0_25.index t 1 = 0) t))).trans (shapeCast_a_1a_apply _ _ _ _)

end Cert.Cloud

end
-- ==== Proof.KernelBatches.lean ====
/-
  What the kernel's body stores, read as two batches: rows 0 to 1023 hold `batchOut` of the blocks' first halves, rows
  1024 to 2047 `batchOut` of their second halves.
-/
module

public import proofs.«01_k».proof.Proof.IdealBlocks
public import proofs.«01_k».proof.Proof.KernelTerms

@[expose] public section

noncomputable section

namespace Cert.Cloud

open Idealize.ShloMosaic Cert.KernelIdeal Cert.KernelIdeal.Gen

/-- The block that the body stores: `batchOut` of the second halves over `batchOut` of the first halves. -/
theorem out_eq (x0 : Vec Ideal S2048x10 .f32) (x1 : Vec Ideal S2048x3 .f32) (x2 : Vec Ideal S512x128 .f32) (x3 : Vec Ideal S512x3 .f32)
    (x4 : Vec Ideal S128x256 .f32) (x5 : Vec Ideal S128x3 .f32) (x6 : Vec Ideal S32x1024 .f32) (x7 : Vec Ideal S32x3 .f32)
    (x8 : Vec Ideal S1280x256 .f32) (x9 : Vec Ideal S1x256 .f32) (x10 : Vec Ideal S256x256 .f32) (x11 : Vec Ideal S1x256 .f32)
    (x12 : Vec Ideal S384x256 .f32) (x13 : Vec Ideal S1x256 .f32) (x14 : Vec Ideal S256x128 .f32) (x15 : Vec Ideal S1x128 .f32)
    (x16 : Vec Ideal S138x128 .f32) (x17 : Vec Ideal S1x128 .f32) (x18 : Vec Ideal S128x128 .f32) (x19 : Vec Ideal S1x128 .f32)
    (x20 : Vec Ideal S128x128 .f32) (x21 : Vec Ideal S1x128 .f32) (x22 : Vec Ideal S128x128 .f32) (x23 : Vec Ideal S1x128 .f32)
    (x24 : Vec Ideal S128x3 .f32) (x25 : Vec Ideal S1x3 .f32) :
    out0_26 x0 x1 x2 x3 x4 x5 x6 x7 x8 x9 x10 x11 x12 x13 x14 x15 x16 x17 x18 x19 x20 x21 x22 x23 x24 x25
    = View.canon
      [⟨r0_21, batchOut (View.ld x0 r0_25) (View.ld x1 r0_21) (View.ld x2 r0_24) (View.ld x3 r0_20) (View.ld x4 r0_23)
        (View.ld x5 r0_18) (View.ld x6 r0_22) (View.ld x7 r0_19) (View.ld x8 r0_6) (View.ld x9 r0_7) (View.ld x10 r0_8)
        (View.ld x11 r0_7) (View.ld x12 r0_10) (View.ld x13 r0_7) (View.ld x14 r0_11) (View.ld x15 r0_12) (View.ld x16 r0_14)
        (View.ld x17 r0_12) (View.ld x18 r0_15) (View.ld x19 r0_12) (View.ld x20 r0_15) (View.ld x21 r0_12) (View.ld x22 r0_15)
        (View.ld x23 r0_12) (View.ld x24 r0_16) (View.ld x25 r0_17)⟩,
       ⟨r0_3, batchOut (View.ld x0 r0_13) (View.ld x1 r0_3) (View.ld x2 r0_9) (View.ld x3 r0_2) (View.ld x4 r0_5)
        (View.ld x5 r0_0) (View.ld x6 r0_4) (View.ld x7 r0_1) (View.ld x8 r0_6) (View.ld x9 r0_7) (View.ld x10 r0_8)
        (View.ld x11 r0_7) (View.ld x12 r0_10) (View.ld x13 r0_7) (View.ld x14 r0_11) (View.ld x15 r0_12) (View.ld x16 r0_14)
        (View.ld x17 r0_12) (View.ld x18 r0_15) (View.ld x19 r0_12) (View.ld x20 r0_15) (View.ld x21 r0_12) (View.ld x22 r0_15)
        (View.ld x23 r0_12) (View.ld x24 r0_16) (View.ld x25 r0_17)⟩] := by
  rfl

end Cert.Cloud

end
-- ==== Proof.Whole.lean ====
/-
  The kernel's result array: every row of it is the reference's row.
-/
module

public import proofs.«01_k».proof.Proof.Blocks
public import proofs.«01_k».proof.Proof.KernelBatches

@[expose] public section

noncomputable section

namespace Cert.Cloud

open Idealize.ShloMosaic hiding ix0 ix1 ix2 ix3 ix4 ix5
open Idealize.ShloMosaic.ValueIdx Idealize.ShloMosaic.TcCoe
open Cert.KernelIdeal Cert.KernelIdeal.Gen

variable (m : (ℓ : Loc nD τ sig) → Buf (Elt Ideal) ℓ) (c : Dev nD)

/-- The reference, of the kernel's arguments. -/
def wanted : Mat 16384 3 :=
  refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))

/-- The precondition, of the kernel's arguments. -/
def Given : Prop :=
  Drawn (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg11))

/-- The element of the result array that an element of step `t`'s block is. -/
def target (t : Fin 8) (y : (M2 2048 3).Idx) : (M2 16384 3).Idx := ix2 (pos (B := 8) (k := 2048) (by rfl) t (y 0)) (y 1)

/-- The element of the result array that an element of half `h` of step `t`'s block is. -/
theorem target_half (t : Fin 8) (h : Fin 2) (off : Fin 2 → ℕ) (inb : ∀ a, off a + (M2 1024 3).size a ≤ (M2 2048 3).size a)
    (h0 : off 0 = h.val * 1024) (h1 : off 1 = 0) (i : Fin 1024) (j : Fin 3) :
    target t ((Rect.unit (s := M2 2048 3) off (M2 1024 3).size inb).emb (ix2 i j))
      = ix2 (pos (a := 16384) (B := 16) (k := 1024) (by rfl) (pos (a := 16) (B := 8) (k := 2) (by rfl) t h) i) j := by
  funext ax
  match ax with
  | ⟨0, _⟩ =>
    refine Fin.ext ?_
    show t.val * 2048 + (off 0 + 1 * i.val) = (t.val * 2 + h.val) * 1024 + i.val
    rw [h0]; ring
  | ⟨1, _⟩ =>
    refine Fin.ext ?_
    show off 1 + 1 * j.val = j.val
    rw [h1]; ring

/-- A half of a block whose elements are the reference's, read through its place in the block. -/
theorem half_stored (b : Mat 1024 3) (t : Fin 8) (h : Fin 2) (off : Fin 2 → ℕ)
    (inb : ∀ a, off a + (M2 1024 3).size a ≤ (M2 2048 3).size a) (h0 : off 0 = h.val * 1024) (h1 : off 1 = 0)
    (H : ∀ i j, b (ix2 i j) = wanted m c (ix2 (pos (a := 16384) (B := 16) (k := 1024) (by rfl) (pos (a := 16) (B := 8) (k := 2) (by rfl) t h) i) j))
    (x : (M2 1024 3).Idx) : b x = wanted m c (target t ((Rect.unit (s := M2 2048 3) off (M2 1024 3).size inb).emb x)) := by
  have e := ix2_self x
  have := (H (x 0) (x 1)).trans (congrArg (wanted m c) (target_half t h off inb h0 h1 (x 0) (x 1)).symm)
  exact (congrArg b e).symm.trans (this.trans (congrArg (fun z => wanted m c (target t ((Rect.unit (s := M2 2048 3) off (M2 1024 3).size inb).emb z))) e))

set_option maxRecDepth 20000 in
set_option maxHeartbeats 2000000 in
/-- The block that step `t` stores holds the reference's rows. -/
theorem stored (D : Given m c) (t : Fin cfg0.N) (y : S2048x3.Idx) :
    out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) y
      = wanted m c (target t y) := by
  have zero : ∀ a, (![0, 0] : Fin 2 → ℕ) a = 0 := fun a => by
    match a with
    | ⟨0, _⟩ => rfl
    | ⟨1, _⟩ => rfl
  have e8 : View.ld (Val := Elt Ideal) (e' := .f32) (iblk m c 8 t) r0_6 = m ((c : Thread nD τ).loc main_arg12) := whole_block _ _ (block8 m c t) _ zero _
  have e10 : View.ld (Val := Elt Ideal) (e' := .f32) (iblk m c 10 t) r0_8 = m ((c : Thread nD τ).loc main_arg14) := whole_block _ _ (block10 m c t) _ zero _
  have e12 : View.ld (Val := Elt Ideal) (e' := .f32) (iblk m c 12 t) r0_10 = m ((c : Thread nD τ).loc main_arg16) := whole_block _ _ (block12 m c t) _ zero _
  have e14 : View.ld (Val := Elt Ideal) (e' := .f32) (iblk m c 14 t) r0_11 = m ((c : Thread nD τ).loc main_arg18) := whole_block _ _ (block14 m c t) _ zero _
  have e16 : View.ld (Val := Elt Ideal) (e' := .f32) (iblk m c 16 t) r0_14 = m ((c : Thread nD τ).loc main_arg20) := whole_block _ _ (block16 m c t) _ zero _
  have e18 : View.ld (Val := Elt Ideal) (e' := .f32) (iblk m c 18 t) r0_15 = m ((c : Thread nD τ).loc main_arg22) := whole_block _ _ (block18 m c t) _ zero _
  have e20 : View.ld (Val := Elt Ideal) (e' := .f32) (iblk m c 20 t) r0_15 = m ((c : Thread nD τ).loc main_arg24) := whole_block _ _ (block20 m c t) _ zero _
  have e22 : View.ld (Val := Elt Ideal) (e' := .f32) (iblk m c 22 t) r0_15 = m ((c : Thread nD τ).loc main_arg26) := whole_block _ _ (block22 m c t) _ zero _
  have e24 : View.ld (Val := Elt Ideal) (e' := .f32) (iblk m c 24 t) r0_16 = m ((c : Thread nD τ).loc main_arg28) := whole_block _ _ (block24 m c t) _ zero _
  rw [out_eq]
  refine View.canon_apply_of_pieces (Val := Elt Ideal) (fun y => wanted m c (target t y)) _ ?_ y (cover0_26 _ _ y)
  intro p hp x
  rcases List.mem_cons.mp hp with rfl | hp
  · exact half_stored m c _ t 1 ![1024, 0] inb_S2048x3_S1024x3_1024_0 (by rfl) (by rfl) (fun i j => batch_eq D _ _ _ _ _ _ _ _ _ _ _ _ _ _ _ _ _ _ _ _ _ _ _ _ _ _ _ _ _ _ _ _ _ _ _ _ _ _ _ _ _ _ _ _ _ _ _ _ (pos (a := 16) (B := 8) (k := 2) (by rfl) t 1)
      (half_rows (by rfl) (by rfl) (by rfl) _ _ t (block0 m c t) 1 _ _ (by rfl) (by rfl))
      (half_rows (by rfl) (by rfl) (by rfl) _ _ t (block1 m c t) 1 _ _ (by rfl) (by rfl))
      (half_rows (by rfl) (by rfl) (by rfl) _ _ t (block2 m c t) 1 _ _ (by rfl) (by rfl))
      (half_rows (by rfl) (by rfl) (by rfl) _ _ t (block3 m c t) 1 _ _ (by rfl) (by rfl))
      (half_rows (by rfl) (by rfl) (by rfl) _ _ t (block4 m c t) 1 _ _ (by rfl) (by rfl))
      (half_rows (by rfl) (by rfl) (by rfl) _ _ t (block5 m c t) 1 _ _ (by rfl) (by rfl))
      (half_rows (by rfl) (by rfl) (by rfl) _ _ t (block6 m c t) 1 _ _ (by rfl) (by rfl))
      (half_rows (by rfl) (by rfl) (by rfl) _ _ t (block7 m c t) 1 _ _ (by rfl) (by rfl))
      e8
      e10
      e12
      e14
      e16
      e18
      e20
      e22
      e24
      (whole_row _ _ (block9 m c t) _ zero _)
      (whole_row _ _ (block11 m c t) _ zero _)
      (whole_row _ _ (block13 m c t) _ zero _)
      (whole_row _ _ (block15 m c t) _ zero _)
      (whole_row _ _ (block17 m c t) _ zero _)
      (whole_row _ _ (block19 m c t) _ zero _)
      (whole_row _ _ (block21 m c t) _ zero _)
      (whole_row _ _ (block23 m c t) _ zero _)
      (whole_row _ _ (block25 m c t) _ zero _)
      i j) x
  · obtain rfl := List.mem_singleton.mp hp
    exact half_stored m c _ t 0 ![0, 0] inb_S2048x3_S1024x3_0_0 (by rfl) (by rfl) (fun i j => batch_eq D _ _ _ _ _ _ _ _ _ _ _ _ _ _ _ _ _ _ _ _ _ _ _ _ _ _ _ _ _ _ _ _ _ _ _ _ _ _ _ _ _ _ _ _ _ _ _ _ (pos (a := 16) (B := 8) (k := 2) (by rfl) t 0)
      (half_rows (by rfl) (by rfl) (by rfl) _ _ t (block0 m c t) 0 _ _ (by rfl) (by rfl))
      (half_rows (by rfl) (by rfl) (by rfl) _ _ t (block1 m c t) 0 _ _ (by rfl) (by rfl))
      (half_rows (by rfl) (by rfl) (by rfl) _ _ t (block2 m c t) 0 _ _ (by rfl) (by rfl))
      (half_rows (by rfl) (by rfl) (by rfl) _ _ t (block3 m c t) 0 _ _ (by rfl) (by rfl))
      (half_rows (by rfl) (by rfl) (by rfl) _ _ t (block4 m c t) 0 _ _ (by rfl) (by rfl))
      (half_rows (by rfl) (by rfl) (by rfl) _ _ t (block5 m c t) 0 _ _ (by rfl) (by rfl))
      (half_rows (by rfl) (by rfl) (by rfl) _ _ t (block6 m c t) 0 _ _ (by rfl) (by rfl))
      (half_rows (by rfl) (by rfl) (by rfl) _ _ t (block7 m c t) 0 _ _ (by rfl) (by rfl))
      e8
      e10
      e12
      e14
      e16
      e18
      e20
      e22
      e24
      (whole_row _ _ (block9 m c t) _ zero _)
      (whole_row _ _ (block11 m c t) _ zero _)
      (whole_row _ _ (block13 m c t) _ zero _)
      (whole_row _ _ (block15 m c t) _ zero _)
      (whole_row _ _ (block17 m c t) _ zero _)
      (whole_row _ _ (block19 m c t) _ zero _)
      (whole_row _ _ (block21 m c t) _ zero _)
      (whole_row _ _ (block23 m c t) _ zero _)
      (whole_row _ _ (block25 m c t) _ zero _)
      i j) x

/-- The result array after the run is the reference. -/
theorem result (D : Given m c) : (dats (F := Ideal) m 0 c).arrAt 26 cfg0.N = wanted m c := by
  refine (dats (F := Ideal) m 0 c).arrAt_eq_of_cover 26 (wanted m c) (fun t _ => ?_) (fun i => ?_)
  · refine (Value.flushed26 m c t).trans (funext fun y => ?_)
    refine (stored m c D t y).trans ?_
    exact (tile_at (by rfl) (wanted m c) _ t (y 0) (y 1) (win0_26.rect_emb_val t y 0)
      ((by decide : ∀ t : Fin grid0.N, win0_26.index t 0 = t.val) t) (win0_26.rect_emb_val t y 1)
      ((by decide : ∀ t : Fin grid0.N, win0_26.index t 1 = 0) t)).symm
  · obtain ⟨t, a, h⟩ := pos_surjective (a := 16384) (B := 8) (k := 2048) (by rfl) (i 0)
    refine ⟨t, flush0_26 t, ?_⟩
    have : ((cfg0.win 26).blk t).view.emb (ix2 a (i 1)) = i := by
      have h1 := win0_26.rect_emb_val t (ix2 a (i 1)) 0
      have h2 := win0_26.rect_emb_val t (ix2 a (i 1)) 1
      rw [(by decide : ∀ t : Fin grid0.N, win0_26.index t 0 = t.val) t] at h1
      rw [(by decide : ∀ t : Fin grid0.N, win0_26.index t 1 = 0) t, Nat.zero_mul, Nat.zero_add] at h2
      funext ax
      match ax with
      | ⟨0, _⟩ => exact Fin.ext (h1.trans (congrArg Fin.val h).symm)
      | ⟨1, _⟩ => exact Fin.ext h2
    rw [← this]
    exact View.emb_mem_set _ _

end Cert.Cloud

end
-- ==== Proof.lean ====
/-
  The claims about the decoder kernel, put together: the three programs run, end with their arguments unchanged and every
  semaphore at zero, and on the drawn clouds the kernel's result is the reference's, element by element.
-/
module

public import proofs.«01_k».proof.Defs
public import proofs.«01_k».proof.Proof.KernelRun
public import proofs.«01_k».proof.Proof.RefRun
public import proofs.«01_k».proof.Proof.Whole
public import Idealize.ShloMosaic.Adequacy
public import Idealize.ShloMosaic.Init

@[expose] public section

noncomputable section

namespace Cert.Proof

open Idealize.ShloMosaic Idealize.SL.Sem Idealize.ShloMosaic.TcCoe

attribute [local instance] Cert.Cloud.pre_facts

/-- The kernel runs at its words, and changes no argument. -/
theorem frame_kernel : Cert.quiescent_Kernel := fun m ρ _ => Cert.Kernel.Gen.frame m ρ

/-- The kernel runs over the extended reals, and changes no argument. -/
theorem frame_ideal : Cert.quiescent_KernelIdeal := fun m ρ _ => Cert.KernelIdeal.Gen.frame m ρ

theorem frame_ideal_drawn : Cert.quiescent_KernelIdeal_pre_drawn_clouds := fun m ρ _ => Cert.KernelIdeal.Gen.frame m ρ

/-- The reference runs over the extended reals, and changes no argument; it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.Cloud.ref_run m ρ)

theorem frame_reference_drawn : Cert.quiescent_ReferenceIdeal_pre_drawn_clouds := fun m ρ _ => frame_reference m ρ trivial

/-- The precondition on the kernel's arguments, in the terms of the proof. -/
theorem given (m : (ℓ : Loc Cert.KernelIdeal.nD Cert.KernelIdeal.τ Cert.KernelIdeal.sig) → Buf (Elt Ideal) ℓ)
    (h : Cert.Pre_KernelIdeal_drawn_clouds m) (c : Dev Cert.KernelIdeal.nD) : Cert.Cloud.Given m c := by
  have hc := h c
  generalize hr : Cert.Pre_drawn_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) = r at hc
  exact Cert.Cloud.drawn_of _ _ _ _ _ _ _ _ _ _ _ _ _ _ _ _ _ _ _ _ _ _ _ _ _ _ _ _ _ _ r hr hc

/-- On the drawn clouds the kernel and the reference end with equal results. -/
theorem algebraic : Cert.algebraic_KernelIdeal_ReferenceIdeal_pre_drawn_clouds := by
  intro m ρ m' ρ' hpre hagree
  refine ⟨fun c => Cert.Cloud.wanted m c, ?_, ?_⟩
  · refine (θ_run (Cert.KernelIdeal.defs (F := Ideal)) _ _).mono ?_ (Cert.KernelIdeal.Value.run_blocks (F := Ideal) m ρ)
    intro r h c
    obtain ⟨hv, hrest⟩ := h c
    exact ⟨hv.trans (Cert.Cloud.result m c (given m hpre c)), hrest⟩
  · refine (θ_run (Cert.ReferenceIdeal.defs (F := Ideal)) _ _).mono
      (fun _ h c => ⟨(h c).1.trans ?_, (h c).2⟩) (Cert.Cloud.ref_run m' ρ')
    obtain ⟨h0, h1, h2, h3, h4, h5, h6, h7, h8, h9, h10, h11, h12, h13, h14, h15, h16, h17, h18, h19, h20, h21, h22, h23, h24, h25, h26, h27, h28, h29⟩ := hagree c
    unfold Cert.Cloud.refOf Cert.Cloud.wanted
    simp only [h0, h1, h2, h3, h4, h5, h6, h7, h8, h9, h10, h11, h12, h13, h14, h15, h16, h17, h18, h19, h20, h21, h22, h23, h24, h25, h26, h27, h28, h29]

theorem claim : Cert.Claim := ⟨Cert.Kernel.Gen.facts, Cert.KernelIdeal.Gen.facts, Cert.ReferenceIdeal.Gen.facts, Cert.Cloud.pre_facts,
  frame_kernel, frame_ideal, frame_ideal_drawn, frame_reference, frame_reference_drawn, trivial, algebraic⟩

end Cert.Proof

end
